-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S32x128 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2 : Shape := ⟨2, ![16384, 2]⟩
abbrev S16384x2x50 : Shape := ⟨3, ![16384, 2, 50]⟩
abbrev S_ : Shape := ⟨0, ![]⟩
abbrev S2x16384 : Shape := ⟨2, ![2, 16384]⟩
abbrev S2x128x128 : Shape := ⟨3, ![2, 128, 128]⟩
abbrev S50x2x16384 : Shape := ⟨3, ![50, 2, 16384]⟩
abbrev S50x2x128x128 : Shape := ⟨4, ![50, 2, 128, 128]⟩
abbrev S1 : Shape := ⟨1, ![1]⟩
abbrev S128x128 : Shape := ⟨2, ![128, 128]⟩
abbrev S2x32x128 : Shape := ⟨3, ![2, 32, 128]⟩
abbrev S50x2x32x128 : Shape := ⟨4, ![50, 2, 32, 128]⟩
abbrev S32x128 : Shape := ⟨2, ![32, 128]⟩
abbrev S1x32x128 : Shape := ⟨3, ![1, 32, 128]⟩
abbrev S1x1x32x128 : Shape := ⟨4, ![1, 1, 32, 128]⟩
abbrev S16384x1 : Shape := ⟨2, ![16384, 1]⟩

abbrev nBuf : Space → Nat
  | .hbm => 10
  | .vmem => 6
  | .smem => 1
  | _ => 0

abbrev bufTy : (tb : Table) → Fin (tcTables nBuf tb) → BufTy
  | .hbm, ⟨0, _⟩ => ⟨S16384x2, .f32⟩
  | .hbm, ⟨1, _⟩ => ⟨S16384x2x50, .f32⟩
  | .hbm, ⟨2, _⟩ => ⟨S_, .f32⟩
  | .hbm, ⟨3, _⟩ => ⟨S2x16384, .f32⟩
  | .hbm, ⟨4, _⟩ => ⟨S2x128x128, .f32⟩
  | .hbm, ⟨5, _⟩ => ⟨S50x2x16384, .f32⟩
  | .hbm, ⟨6, _⟩ => ⟨S50x2x128x128, .f32⟩
  | .hbm, ⟨7, _⟩ => ⟨S1, .f32⟩
  | .hbm, ⟨8, _⟩ => ⟨S128x128, .f32⟩
  | .hbm, ⟨9, _⟩ => ⟨S16384x1, .f32⟩
  | .local _ .vmem, ⟨0, _⟩ => ⟨S2x32x128, .f32⟩
  | .local _ .vmem, ⟨1, _⟩ => ⟨S2x32x128, .f32⟩
  | .local _ .vmem, ⟨2, _⟩ => ⟨S50x2x32x128, .f32⟩
  | .local _ .vmem, ⟨3, _⟩ => ⟨S50x2x32x128, .f32⟩
  | .local _ .vmem, ⟨4, _⟩ => ⟨S32x128, .f32⟩
  | .local _ .vmem, ⟨5, _⟩ => ⟨S32x128, .f32⟩
  | .local _ .smem, ⟨0, _⟩ => ⟨S1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c50_i32 : BitVec 32 := 50#32
  let v11 : BitVec 32 := Scalar.addi c0_i32 c50_i32
  let c1_i32 : BitVec 32 := 1#32
  ⟨c0_i32, v11, c1_i32⟩
def k0_off1 (k0_t1 : Fin k0_t1_loop.trips) : Fin 4 → Nat :=
  let c0_i32 : BitVec 32 := 0#32
  let c1_i32 : BitVec 32 := 1#32
  let arg5 : BitVec 32 := Scf.iv c0_i32 c1_i32 k0_t1
  let v312 : Index := Scalar.indexCast arg5
  let c0_77 : Index := 0#32
  let c0_78 : Index := 0#32
  let c0_79 : Index := 0#32
  ![v312.toNat, 0, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v315 : Index := Scalar.indexCast arg5
  let c1_80 : Index := 1#32
  let c0_81 : Index := 0#32
  let c0_82 : Index := 0#32
  ![v315.toNat, 1, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x2x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S16384x2 : Shape := ⟨2, ![16384, 2]⟩
abbrev S16384x2x50 : Shape := ⟨3, ![16384, 2, 50]⟩
abbrev S_ : Shape := ⟨0, ![]⟩
abbrev S16384 : Shape := ⟨1, ![16384]⟩
abbrev S16384x2x1 : Shape := ⟨3, ![16384, 2, 1]⟩
abbrev S16384x1 : Shape := ⟨2, ![16384, 1]⟩

abbrev nBuf : Space → Nat
  | .hbm => 381
  | .vmem => 0
  | .smem => 0
  | _ => 0

abbrev hbmTy0_0 (i : Nat) : BufTy := match i % 128 with
  | 0 => ⟨S16384x2, .f32⟩
  | 1 => ⟨S16384x2x50, .f32⟩
  | 2 => ⟨S_, .f32⟩
  | 3 => ⟨S_, .f32⟩
  | 4 => ⟨S16384, .f32⟩
  | 5 => ⟨S_, .f32⟩
  | 6 => ⟨S16384, .f32⟩
  | 7 => ⟨S_, .i32⟩
  | 8 => ⟨S_, .i32⟩
  | 9 => ⟨S_, .f32⟩
  | 10 => ⟨S16384x2x50, .f32⟩
  | 11 => ⟨S_, .i32⟩
  | 12 => ⟨S_, .i32⟩
  | 13 => ⟨S16384x2, .f32⟩
  | 14 => ⟨S16384, .f32⟩
  | 15 => ⟨S16384, .f32⟩
  | 16 => ⟨S16384, .f32⟩
  | 17 => ⟨S_, .i32⟩
  | 18 => ⟨S_, .i1⟩
  | 19 => ⟨S_, .i32⟩
  | 20 => ⟨S_, .i32⟩
  | 21 => ⟨S16384x2, .f32⟩
  | 22 => ⟨S16384x2, .f32⟩
  | 23 => ⟨S_, .f32⟩
  | 24 => ⟨S16384x2, .f32⟩
  | 25 => ⟨S16384x2, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S16384x2x1, .f32⟩
  | 35 => ⟨S16384x2, .f32⟩
  | 36 => ⟨S_, .f32⟩
  | 37 => ⟨S16384x2, .f32⟩
  | 38 => ⟨S16384x2, .f32⟩
  | 39 => ⟨S16384x2, .f32⟩
  | 40 => ⟨S16384x2, .f32⟩
  | 41 => ⟨S16384x2, .f32⟩
  | 42 => ⟨S_, .f32⟩
  | 43 => ⟨S16384, .f32⟩
  | 44 => ⟨S_, .f32⟩
  | 45 => ⟨S16384, .f32⟩
  | 46 => ⟨S16384, .f32⟩
  | 47 => ⟨S16384, .f32⟩
  | 48 => ⟨S_, .f32⟩
  | 49 => ⟨S16384, .f32⟩
  | 50 => ⟨S16384, .f32⟩
  | 51 => ⟨S_, .f32⟩
  | 52 => ⟨S16384, .f32⟩
  | 53 => ⟨S16384, .f32⟩
  | 54 => ⟨S16384, .f32⟩
  | 55 => ⟨S_, .f32⟩
  | 56 => ⟨S16384, .f32⟩
  | 57 => ⟨S16384, .f32⟩
  | 58 => ⟨S16384, .f32⟩
  | 59 => ⟨S16384, .f32⟩
  | 60 => ⟨S_, .f32⟩
  | 61 => ⟨S16384, .f32⟩
  | 62 => ⟨S16384, .i1⟩
  | 63 => ⟨S16384x2, .f32⟩
  | 64 => ⟨S_, .f32⟩
  | 65 => ⟨S16384, .f32⟩
  | 66 => ⟨S16384x2, .f32⟩
  | 67 => ⟨S_, .f32⟩
  | 68 => ⟨S16384, .f32⟩
  | 69 => ⟨S_, .f32⟩
  | 70 => ⟨S16384, .f32⟩
  | 71 => ⟨S16384, .f32⟩
  | 72 => ⟨S_, .f32⟩
  | 73 => ⟨S16384x2, .f32⟩
  | 74 => ⟨S16384x2, .f32⟩
  | 75 => ⟨S16384x2, .f32⟩
  | 76 => ⟨S16384x2, .f32⟩
  | 77 => ⟨S16384x2, .f32⟩
  | 78 => ⟨S_, .f32⟩
  | 79 => ⟨S16384, .f32⟩
  | 80 => ⟨S16384x2, .f32⟩
  | 81 => ⟨S_, .f32⟩
  | 82 => ⟨S16384, .f32⟩
  | 83 => ⟨S_, .f32⟩
  | 84 => ⟨S16384, .f32⟩
  | 85 => ⟨S16384, .f32⟩
  | 86 => ⟨S16384x2, .f32⟩
  | 87 => ⟨S_, .f32⟩
  | 88 => ⟨S16384, .f32⟩
  | 89 => ⟨S_, .f32⟩
  | 90 => ⟨S16384, .f32⟩
  | 91 => ⟨S16384, .f32⟩
  | 92 => ⟨S_, .f32⟩
  | 93 => ⟨S16384, .f32⟩
  | 94 => ⟨S16384, .f32⟩
  | 95 => ⟨S16384, .f32⟩
  | 96 => ⟨S16384, .f32⟩
  | 97 => ⟨S_, .f32⟩
  | 98 => ⟨S16384, .f32⟩
  | 99 => ⟨S16384, .f32⟩
  | 100 => ⟨S16384, .f32⟩
  | 101 => ⟨S16384, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S_, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x2, .f32⟩

abbrev hbmTy0_1 (i : Nat) : BufTy := match i % 128 with
  | 0 => ⟨S_, .f32⟩
  | 1 => ⟨S16384, .f32⟩
  | 2 => ⟨S16384, .f32⟩
  | 3 => ⟨S16384, .f32⟩
  | 4 => ⟨S16384, .f32⟩
  | 5 => ⟨S_, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .f32⟩
  | 13 => ⟨S16384, .f32⟩
  | 14 => ⟨S16384, .f32⟩
  | 15 => ⟨S_, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S_, .f32⟩
  | 23 => ⟨S16384, .f32⟩
  | 24 => ⟨S16384, .f32⟩
  | 25 => ⟨S16384, .f32⟩
  | 26 => ⟨S16384, .f32⟩
  | 27 => ⟨S_, .f32⟩
  | 28 => ⟨S16384, .f32⟩
  | 29 => ⟨S16384, .f32⟩
  | 30 => ⟨S16384, .f32⟩
  | 31 => ⟨S16384, .f32⟩
  | 32 => ⟨S16384, .f32⟩
  | 33 => ⟨S_, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S16384, .f32⟩
  | 46 => ⟨S16384, .f32⟩
  | 47 => ⟨S_, .f32⟩
  | 48 => ⟨S16384, .f32⟩
  | 49 => ⟨S16384, .f32⟩
  | 50 => ⟨S_, .f32⟩
  | 51 => ⟨S16384, .f32⟩
  | 52 => ⟨S16384, .f32⟩
  | 53 => ⟨S16384, .f32⟩
  | 54 => ⟨S16384, .f32⟩
  | 55 => ⟨S_, .f32⟩
  | 56 => ⟨S16384, .f32⟩
  | 57 => ⟨S16384, .f32⟩
  | 58 => ⟨S16384, .f32⟩
  | 59 => ⟨S_, .f32⟩
  | 60 => ⟨S16384, .f32⟩
  | 61 => ⟨S16384, .f32⟩
  | 62 => ⟨S16384, .f32⟩
  | 63 => ⟨S16384, .f32⟩
  | 64 => ⟨S_, .f32⟩
  | 65 => ⟨S16384, .f32⟩
  | 66 => ⟨S16384, .f32⟩
  | 67 => ⟨S16384, .f32⟩
  | 68 => ⟨S16384, .f32⟩
  | 69 => ⟨S16384, .f32⟩
  | 70 => ⟨S_, .f32⟩
  | 71 => ⟨S16384, .f32⟩
  | 72 => ⟨S16384, .f32⟩
  | 73 => ⟨S16384, .f32⟩
  | 74 => ⟨S_, .f32⟩
  | 75 => ⟨S16384, .f32⟩
  | 76 => ⟨S16384, .f32⟩
  | 77 => ⟨S_, .f32⟩
  | 78 => ⟨S16384, .f32⟩
  | 79 => ⟨S16384, .f32⟩
  | 80 => ⟨S16384, .f32⟩
  | 81 => ⟨S16384, .f32⟩
  | 82 => ⟨S_, .f32⟩
  | 83 => ⟨S16384, .f32⟩
  | 84 => ⟨S16384, .f32⟩
  | 85 => ⟨S_, .f32⟩
  | 86 => ⟨S16384, .f32⟩
  | 87 => ⟨S16384, .f32⟩
  | 88 => ⟨S_, .f32⟩
  | 89 => ⟨S16384, .f32⟩
  | 90 => ⟨S16384, .f32⟩
  | 91 => ⟨S16384, .f32⟩
  | 92 => ⟨S_, .f32⟩
  | 93 => ⟨S16384, .f32⟩
  | 94 => ⟨S16384, .f32⟩
  | 95 => ⟨S16384, .f32⟩
  | 96 => ⟨S_, .f32⟩
  | 97 => ⟨S_, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S_, .f32⟩
  | 113 => ⟨S16384, .f32⟩
  | 114 => ⟨S16384, .f32⟩
  | 115 => ⟨S16384, .f32⟩
  | 116 => ⟨S16384, .f32⟩
  | 117 => ⟨S_, .f32⟩
  | 118 => ⟨S16384, .f32⟩
  | 119 => ⟨S16384, .f32⟩
  | 120 => ⟨S16384, .f32⟩
  | 121 => ⟨S_, .f32⟩
  | 122 => ⟨S16384, .f32⟩
  | 123 => ⟨S16384, .f32⟩
  | 124 => ⟨S_, .f32⟩
  | 125 => ⟨S16384, .f32⟩
  | 126 => ⟨S16384, .f32⟩
  | 127 => ⟨S16384, .f32⟩
  | _ => ⟨S16384x2, .f32⟩

abbrev hbmTy0_2 (i : Nat) : BufTy := match i % 128 with
  | 0 => ⟨S16384, .f32⟩
  | 1 => ⟨S_, .f32⟩
  | 2 => ⟨S16384, .f32⟩
  | 3 => ⟨S16384, .f32⟩
  | 4 => ⟨S_, .f32⟩
  | 5 => ⟨S16384, .f32⟩
  | 6 => ⟨S16384, .f32⟩
  | 7 => ⟨S16384, .f32⟩
  | 8 => ⟨S_, .f32⟩
  | 9 => ⟨S16384, .f32⟩
  | 10 => ⟨S16384, .f32⟩
  | 11 => ⟨S16384, .f32⟩
  | 12 => ⟨S16384, .f32⟩
  | 13 => ⟨S16384, .f32⟩
  | 14 => ⟨S_, .f32⟩
  | 15 => ⟨S16384, .f32⟩
  | 16 => ⟨S16384, .f32⟩
  | 17 => ⟨S_, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S_, .f32⟩
  | 26 => ⟨S16384, .f32⟩
  | 27 => ⟨S16384, .f32⟩
  | 28 => ⟨S_, .f32⟩
  | 29 => ⟨S16384, .f32⟩
  | 30 => ⟨S16384, .f32⟩
  | 31 => ⟨S_, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S_, .f32⟩
  | 40 => ⟨S16384, .f32⟩
  | 41 => ⟨S16384, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S_, .f32⟩
  | 51 => ⟨S16384, .f32⟩
  | 52 => ⟨S16384, .f32⟩
  | 53 => ⟨S_, .f32⟩
  | 54 => ⟨S16384, .f32⟩
  | 55 => ⟨S16384, .f32⟩
  | 56 => ⟨S_, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S_, .f32⟩
  | 64 => ⟨S16384, .f32⟩
  | 65 => ⟨S16384, .f32⟩
  | 66 => ⟨S16384, .f32⟩
  | 67 => ⟨S_, .f32⟩
  | 68 => ⟨S16384, .f32⟩
  | 69 => ⟨S16384, .i1⟩
  | 70 => ⟨S16384, .f32⟩
  | 71 => ⟨S16384, .f32⟩
  | 72 => ⟨S16384, .f32⟩
  | 73 => ⟨S_, .f32⟩
  | 74 => ⟨S_, .f32⟩
  | 75 => ⟨S_, .f32⟩
  | 76 => ⟨S16384x2, .f32⟩
  | 77 => ⟨S_, .f32⟩
  | 78 => ⟨S16384, .f32⟩
  | 79 => ⟨S16384, .f32⟩
  | 80 => ⟨S16384, .f32⟩
  | 81 => ⟨S_, .f32⟩
  | 82 => ⟨S16384, .f32⟩
  | 83 => ⟨S16384, .f32⟩
  | 84 => ⟨S16384, .f32⟩
  | 85 => ⟨S_, .f32⟩
  | 86 => ⟨S16384, .f32⟩
  | 87 => ⟨S16384, .f32⟩
  | 88 => ⟨S16384, .f32⟩
  | 89 => ⟨S16384, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384x1, .f32⟩
  | 96 => ⟨S16384x2, .f32⟩
  | 97 => ⟨S16384x2, .f32⟩
  | 98 => ⟨S16384x2, .f32⟩
  | 99 => ⟨S_, .f32⟩
  | 100 => ⟨S16384, .f32⟩
  | 101 => ⟨S16384, .i1⟩
  | 102 => ⟨S_, .f32⟩
  | 103 => ⟨S_, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384x1, .f32⟩
  | 110 => ⟨S16384x2, .f32⟩
  | 111 => ⟨S16384x2, .f32⟩
  | 112 => ⟨S16384x2, .f32⟩
  | 113 => ⟨S_, .f32⟩
  | 114 => ⟨S16384, .f32⟩
  | 115 => ⟨S16384, .f32⟩
  | 116 => ⟨S16384, .f32⟩
  | 117 => ⟨S_, .i32⟩
  | 118 => ⟨S_, .i32⟩
  | 119 => ⟨S16384x2, .f32⟩
  | 120 => ⟨S_, .f32⟩
  | 121 => ⟨S16384, .f32⟩
  | 122 => ⟨S16384, .f32⟩
  | 123 => ⟨S16384, .f32⟩
  | 124 => ⟨S16384x1, .f32⟩
  | _ => ⟨S16384x2, .f32⟩

abbrev hbmTy (i : Nat) : BufTy := match i / 128 with
  | 0 => hbmTy0_0 i
  | 1 => hbmTy0_1 i
  | 2 => hbmTy0_2 i
  | _ => ⟨S16384x2, .f32⟩

abbrev bufTy : (tb : Table) → Fin (tcTables nBuf tb) → BufTy
  | .hbm, ⟨i, _⟩ => hbmTy i
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_c_1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_while0c_c_10 : Ref sig .tc := ⟨.hbm, 17, rfl⟩
abbrev main_while0c_v8 : Ref sig .tc := ⟨.hbm, 18, rfl⟩
abbrev main_while0b_c_10 : Ref sig .tc := ⟨.hbm, 19, rfl⟩
abbrev main_while0b_v8 : Ref sig .tc := ⟨.hbm, 20, rfl⟩
abbrev main_while0b_v9 : Ref sig .tc := ⟨.hbm, 21, rfl⟩
abbrev main_while0b_v10 : Ref sig .tc := ⟨.hbm, 22, rfl⟩
abbrev main_while0b_cst_11 : Ref sig .tc := ⟨.hbm, 23, rfl⟩
abbrev main_while0b_v11 : Ref sig .tc := ⟨.hbm, 24, rfl⟩
abbrev main_while0b_v12 : Ref sig .tc := ⟨.hbm, 25, rfl⟩
abbrev main_while0b_call0_c : Ref sig .tc := ⟨.hbm, 26, rfl⟩
abbrev main_while0b_call0_v0 : Ref sig .tc := ⟨.hbm, 27, rfl⟩
abbrev main_while0b_call0_v1 : Ref sig .tc := ⟨.hbm, 28, rfl⟩
abbrev main_while0b_call0_c_0 : Ref sig .tc := ⟨.hbm, 29, rfl⟩
abbrev main_while0b_call0_v2 : Ref sig .tc := ⟨.hbm, 30, rfl⟩
abbrev main_while0b_call0_v3 : Ref sig .tc := ⟨.hbm, 31, rfl⟩
abbrev main_while0b_call0_c_1 : Ref sig .tc := ⟨.hbm, 32, rfl⟩
abbrev main_while0b_call0_c_2 : Ref sig .tc := ⟨.hbm, 33, rfl⟩
abbrev main_while0b_call0_v4 : Ref sig .tc := ⟨.hbm, 34, rfl⟩
abbrev main_while0b_v13 : Ref sig .tc := ⟨.hbm, 35, rfl⟩
abbrev main_while0b_cst_12 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_cst_13 : Ref sig .tc := ⟨.hbm, 42, rfl⟩
abbrev main_while0b_v19 : Ref sig .tc := ⟨.hbm, 43, rfl⟩
abbrev main_while0b_cst_14 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_cst_15 : Ref sig .tc := ⟨.hbm, 48, rfl⟩
abbrev main_while0b_v23 : Ref sig .tc := ⟨.hbm, 49, rfl⟩
abbrev main_while0b_v24 : Ref sig .tc := ⟨.hbm, 50, rfl⟩
abbrev main_while0b_cst_16 : Ref sig .tc := ⟨.hbm, 51, rfl⟩
abbrev main_while0b_v25 : Ref sig .tc := ⟨.hbm, 52, rfl⟩
abbrev main_while0b_v26 : Ref sig .tc := ⟨.hbm, 53, rfl⟩
abbrev main_while0b_v27 : Ref sig .tc := ⟨.hbm, 54, rfl⟩
abbrev main_while0b_cst_17 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_cst_18 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_cst_19 : Ref sig .tc := ⟨.hbm, 64, rfl⟩
abbrev main_while0b_v35 : Ref sig .tc := ⟨.hbm, 65, rfl⟩
abbrev main_while0b_v36 : Ref sig .tc := ⟨.hbm, 66, rfl⟩
abbrev main_while0b_cst_20 : Ref sig .tc := ⟨.hbm, 67, rfl⟩
abbrev main_while0b_v37 : Ref sig .tc := ⟨.hbm, 68, rfl⟩
abbrev main_while0b_cst_21 : Ref sig .tc := ⟨.hbm, 69, rfl⟩
abbrev main_while0b_v38 : Ref sig .tc := ⟨.hbm, 70, rfl⟩
abbrev main_while0b_v39 : Ref sig .tc := ⟨.hbm, 71, rfl⟩
abbrev main_while0b_cst_22 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_cst_23 : Ref sig .tc := ⟨.hbm, 78, rfl⟩
abbrev main_while0b_v45 : Ref sig .tc := ⟨.hbm, 79, rfl⟩
abbrev main_while0b_v46 : Ref sig .tc := ⟨.hbm, 80, rfl⟩
abbrev main_while0b_cst_24 : Ref sig .tc := ⟨.hbm, 81, rfl⟩
abbrev main_while0b_v47 : Ref sig .tc := ⟨.hbm, 82, rfl⟩
abbrev main_while0b_cst_25 : Ref sig .tc := ⟨.hbm, 83, rfl⟩
abbrev main_while0b_v48 : Ref sig .tc := ⟨.hbm, 84, rfl⟩
abbrev main_while0b_v49 : Ref sig .tc := ⟨.hbm, 85, rfl⟩
abbrev main_while0b_v50 : Ref sig .tc := ⟨.hbm, 86, rfl⟩
abbrev main_while0b_cst_26 : Ref sig .tc := ⟨.hbm, 87, rfl⟩
abbrev main_while0b_v51 : Ref sig .tc := ⟨.hbm, 88, rfl⟩
abbrev main_while0b_cst_27 : Ref sig .tc := ⟨.hbm, 89, rfl⟩
abbrev main_while0b_v52 : Ref sig .tc := ⟨.hbm, 90, rfl⟩
abbrev main_while0b_v53 : Ref sig .tc := ⟨.hbm, 91, rfl⟩
abbrev main_while0b_cst_28 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_v57 : Ref sig .tc := ⟨.hbm, 96, rfl⟩
abbrev main_while0b_cst_29 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_cst_30 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_cst_31 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_cst_32 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_cst_33 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_cst_34 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_cst_35 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_cst_36 : Ref sig .tc := ⟨.hbm, 140, rfl⟩
abbrev main_while0b_v94 : Ref sig .tc := ⟨.hbm, 141, rfl⟩
abbrev main_while0b_v95 : Ref sig .tc := ⟨.hbm, 142, rfl⟩
abbrev main_while0b_cst_37 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_cst_38 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_cst_39 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_cst_40 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_cst_41 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_v122 : Ref sig .tc := ⟨.hbm, 174, rfl⟩
abbrev main_while0b_cst_42 : Ref sig .tc := ⟨.hbm, 175, rfl⟩
abbrev main_while0b_v123 : Ref sig .tc := ⟨.hbm, 176, rfl⟩
abbrev main_while0b_v124 : Ref sig .tc := ⟨.hbm, 177, rfl⟩
abbrev main_while0b_cst_43 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_cst_44 : Ref sig .tc := ⟨.hbm, 183, rfl⟩
abbrev main_while0b_v129 : Ref sig .tc := ⟨.hbm, 184, rfl⟩
abbrev main_while0b_v130 : Ref sig .tc := ⟨.hbm, 185, rfl⟩
abbrev main_while0b_v131 : Ref sig .tc := ⟨.hbm, 186, rfl⟩
abbrev main_while0b_cst_45 : Ref sig .tc := ⟨.hbm, 187, rfl⟩
abbrev main_while0b_v132 : Ref sig .tc := ⟨.hbm, 188, rfl⟩
abbrev main_while0b_v133 : Ref sig .tc := ⟨.hbm, 189, rfl⟩
abbrev main_while0b_v134 : Ref sig .tc := ⟨.hbm, 190, rfl⟩
abbrev main_while0b_v135 : Ref sig .tc := ⟨.hbm, 191, rfl⟩
abbrev main_while0b_cst_46 : Ref sig .tc := ⟨.hbm, 192, rfl⟩
abbrev main_while0b_v136 : Ref sig .tc := ⟨.hbm, 193, rfl⟩
abbrev main_while0b_v137 : Ref sig .tc := ⟨.hbm, 194, rfl⟩
abbrev main_while0b_v138 : Ref sig .tc := ⟨.hbm, 195, rfl⟩
abbrev main_while0b_v139 : Ref sig .tc := ⟨.hbm, 196, rfl⟩
abbrev main_while0b_v140 : Ref sig .tc := ⟨.hbm, 197, rfl⟩
abbrev main_while0b_cst_47 : Ref sig .tc := ⟨.hbm, 198, rfl⟩
abbrev main_while0b_v141 : Ref sig .tc := ⟨.hbm, 199, rfl⟩
abbrev main_while0b_v142 : Ref sig .tc := ⟨.hbm, 200, rfl⟩
abbrev main_while0b_v143 : Ref sig .tc := ⟨.hbm, 201, rfl⟩
abbrev main_while0b_cst_48 : Ref sig .tc := ⟨.hbm, 202, rfl⟩
abbrev main_while0b_v144 : Ref sig .tc := ⟨.hbm, 203, rfl⟩
abbrev main_while0b_v145 : Ref sig .tc := ⟨.hbm, 204, rfl⟩
abbrev main_while0b_cst_49 : Ref sig .tc := ⟨.hbm, 205, rfl⟩
abbrev main_while0b_v146 : Ref sig .tc := ⟨.hbm, 206, rfl⟩
abbrev main_while0b_v147 : Ref sig .tc := ⟨.hbm, 207, rfl⟩
abbrev main_while0b_v148 : Ref sig .tc := ⟨.hbm, 208, rfl⟩
abbrev main_while0b_v149 : Ref sig .tc := ⟨.hbm, 209, rfl⟩
abbrev main_while0b_cst_50 : Ref sig .tc := ⟨.hbm, 210, rfl⟩
abbrev main_while0b_v150 : Ref sig .tc := ⟨.hbm, 211, rfl⟩
abbrev main_while0b_v151 : Ref sig .tc := ⟨.hbm, 212, rfl⟩
abbrev main_while0b_cst_51 : Ref sig .tc := ⟨.hbm, 213, rfl⟩
abbrev main_while0b_v152 : Ref sig .tc := ⟨.hbm, 214, rfl⟩
abbrev main_while0b_v153 : Ref sig .tc := ⟨.hbm, 215, rfl⟩
abbrev main_while0b_cst_52 : Ref sig .tc := ⟨.hbm, 216, rfl⟩
abbrev main_while0b_v154 : Ref sig .tc := ⟨.hbm, 217, rfl⟩
abbrev main_while0b_v155 : Ref sig .tc := ⟨.hbm, 218, rfl⟩
abbrev main_while0b_v156 : Ref sig .tc := ⟨.hbm, 219, rfl⟩
abbrev main_while0b_cst_53 : Ref sig .tc := ⟨.hbm, 220, rfl⟩
abbrev main_while0b_v157 : Ref sig .tc := ⟨.hbm, 221, rfl⟩
abbrev main_while0b_v158 : Ref sig .tc := ⟨.hbm, 222, rfl⟩
abbrev main_while0b_v159 : Ref sig .tc := ⟨.hbm, 223, rfl⟩
abbrev main_while0b_cst_54 : Ref sig .tc := ⟨.hbm, 224, rfl⟩
abbrev main_while0b_cst_55 : Ref sig .tc := ⟨.hbm, 225, rfl⟩
abbrev main_while0b_call1_v0 : Ref sig .tc := ⟨.hbm, 226, rfl⟩
abbrev main_while0b_call1_v1 : Ref sig .tc := ⟨.hbm, 227, rfl⟩
abbrev main_while0b_call1_v2 : Ref sig .tc := ⟨.hbm, 228, rfl⟩
abbrev main_while0b_call1_v3 : Ref sig .tc := ⟨.hbm, 229, rfl⟩
abbrev main_while0b_call1_v4 : Ref sig .tc := ⟨.hbm, 230, rfl⟩
abbrev main_while0b_v160 : Ref sig .tc := ⟨.hbm, 231, rfl⟩
abbrev main_while0b_v161 : Ref sig .tc := ⟨.hbm, 232, rfl⟩
abbrev main_while0b_v162 : Ref sig .tc := ⟨.hbm, 233, rfl⟩
abbrev main_while0b_cst_56 : Ref sig .tc := ⟨.hbm, 234, rfl⟩
abbrev main_while0b_v163 : Ref sig .tc := ⟨.hbm, 235, rfl⟩
abbrev main_while0b_v164 : Ref sig .tc := ⟨.hbm, 236, rfl⟩
abbrev main_while0b_cst_57 : Ref sig .tc := ⟨.hbm, 237, rfl⟩
abbrev main_while0b_v165 : Ref sig .tc := ⟨.hbm, 238, rfl⟩
abbrev main_while0b_v166 : Ref sig .tc := ⟨.hbm, 239, rfl⟩
abbrev main_while0b_cst_58 : Ref sig .tc := ⟨.hbm, 240, rfl⟩
abbrev main_while0b_v167 : Ref sig .tc := ⟨.hbm, 241, rfl⟩
abbrev main_while0b_v168 : Ref sig .tc := ⟨.hbm, 242, rfl⟩
abbrev main_while0b_v169 : Ref sig .tc := ⟨.hbm, 243, rfl⟩
abbrev main_while0b_v170 : Ref sig .tc := ⟨.hbm, 244, rfl⟩
abbrev main_while0b_cst_59 : Ref sig .tc := ⟨.hbm, 245, rfl⟩
abbrev main_while0b_v171 : Ref sig .tc := ⟨.hbm, 246, rfl⟩
abbrev main_while0b_v172 : Ref sig .tc := ⟨.hbm, 247, rfl⟩
abbrev main_while0b_v173 : Ref sig .tc := ⟨.hbm, 248, rfl⟩
abbrev main_while0b_cst_60 : Ref sig .tc := ⟨.hbm, 249, rfl⟩
abbrev main_while0b_v174 : Ref sig .tc := ⟨.hbm, 250, rfl⟩
abbrev main_while0b_v175 : Ref sig .tc := ⟨.hbm, 251, rfl⟩
abbrev main_while0b_cst_61 : Ref sig .tc := ⟨.hbm, 252, rfl⟩
abbrev main_while0b_v176 : Ref sig .tc := ⟨.hbm, 253, rfl⟩
abbrev main_while0b_v177 : Ref sig .tc := ⟨.hbm, 254, rfl⟩
abbrev main_while0b_v178 : Ref sig .tc := ⟨.hbm, 255, rfl⟩
abbrev main_while0b_v179 : Ref sig .tc := ⟨.hbm, 256, rfl⟩
abbrev main_while0b_cst_62 : Ref sig .tc := ⟨.hbm, 257, rfl⟩
abbrev main_while0b_v180 : Ref sig .tc := ⟨.hbm, 258, rfl⟩
abbrev main_while0b_v181 : Ref sig .tc := ⟨.hbm, 259, rfl⟩
abbrev main_while0b_cst_63 : Ref sig .tc := ⟨.hbm, 260, rfl⟩
abbrev main_while0b_v182 : Ref sig .tc := ⟨.hbm, 261, rfl⟩
abbrev main_while0b_v183 : Ref sig .tc := ⟨.hbm, 262, rfl⟩
abbrev main_while0b_v184 : Ref sig .tc := ⟨.hbm, 263, rfl⟩
abbrev main_while0b_cst_64 : Ref sig .tc := ⟨.hbm, 264, rfl⟩
abbrev main_while0b_v185 : Ref sig .tc := ⟨.hbm, 265, rfl⟩
abbrev main_while0b_v186 : Ref sig .tc := ⟨.hbm, 266, rfl⟩
abbrev main_while0b_v187 : Ref sig .tc := ⟨.hbm, 267, rfl⟩
abbrev main_while0b_v188 : Ref sig .tc := ⟨.hbm, 268, rfl⟩
abbrev main_while0b_v189 : Ref sig .tc := ⟨.hbm, 269, rfl⟩
abbrev main_while0b_cst_65 : Ref sig .tc := ⟨.hbm, 270, rfl⟩
abbrev main_while0b_v190 : Ref sig .tc := ⟨.hbm, 271, rfl⟩
abbrev main_while0b_v191 : Ref sig .tc := ⟨.hbm, 272, rfl⟩
abbrev main_while0b_cst_66 : Ref sig .tc := ⟨.hbm, 273, rfl⟩
abbrev main_while0b_v192 : Ref sig .tc := ⟨.hbm, 274, rfl⟩
abbrev main_while0b_v193 : Ref sig .tc := ⟨.hbm, 275, rfl⟩
abbrev main_while0b_v194 : Ref sig .tc := ⟨.hbm, 276, rfl⟩
abbrev main_while0b_v195 : Ref sig .tc := ⟨.hbm, 277, rfl⟩
abbrev main_while0b_v196 : Ref sig .tc := ⟨.hbm, 278, rfl⟩
abbrev main_while0b_v197 : Ref sig .tc := ⟨.hbm, 279, rfl⟩
abbrev main_while0b_v198 : Ref sig .tc := ⟨.hbm, 280, rfl⟩
abbrev main_while0b_cst_67 : Ref sig .tc := ⟨.hbm, 281, rfl⟩
abbrev main_while0b_v199 : Ref sig .tc := ⟨.hbm, 282, rfl⟩
abbrev main_while0b_v200 : Ref sig .tc := ⟨.hbm, 283, rfl⟩
abbrev main_while0b_cst_68 : Ref sig .tc := ⟨.hbm, 284, rfl⟩
abbrev main_while0b_v201 : Ref sig .tc := ⟨.hbm, 285, rfl⟩
abbrev main_while0b_v202 : Ref sig .tc := ⟨.hbm, 286, rfl⟩
abbrev main_while0b_cst_69 : Ref sig .tc := ⟨.hbm, 287, rfl⟩
abbrev main_while0b_v203 : Ref sig .tc := ⟨.hbm, 288, rfl⟩
abbrev main_while0b_v204 : Ref sig .tc := ⟨.hbm, 289, rfl⟩
abbrev main_while0b_v205 : Ref sig .tc := ⟨.hbm, 290, rfl⟩
abbrev main_while0b_v206 : Ref sig .tc := ⟨.hbm, 291, rfl⟩
abbrev main_while0b_v207 : Ref sig .tc := ⟨.hbm, 292, rfl⟩
abbrev main_while0b_v208 : Ref sig .tc := ⟨.hbm, 293, rfl⟩
abbrev main_while0b_v209 : Ref sig .tc := ⟨.hbm, 294, rfl⟩
abbrev main_while0b_cst_70 : Ref sig .tc := ⟨.hbm, 295, rfl⟩
abbrev main_while0b_v210 : Ref sig .tc := ⟨.hbm, 296, rfl⟩
abbrev main_while0b_v211 : Ref sig .tc := ⟨.hbm, 297, rfl⟩
abbrev main_while0b_cst_71 : Ref sig .tc := ⟨.hbm, 298, rfl⟩
abbrev main_while0b_v212 : Ref sig .tc := ⟨.hbm, 299, rfl⟩
abbrev main_while0b_v213 : Ref sig .tc := ⟨.hbm, 300, rfl⟩
abbrev main_while0b_v214 : Ref sig .tc := ⟨.hbm, 301, rfl⟩
abbrev main_while0b_v215 : Ref sig .tc := ⟨.hbm, 302, rfl⟩
abbrev main_while0b_v216 : Ref sig .tc := ⟨.hbm, 303, rfl⟩
abbrev main_while0b_v217 : Ref sig .tc := ⟨.hbm, 304, rfl⟩
abbrev main_while0b_v218 : Ref sig .tc := ⟨.hbm, 305, rfl⟩
abbrev main_while0b_cst_72 : Ref sig .tc := ⟨.hbm, 306, rfl⟩
abbrev main_while0b_v219 : Ref sig .tc := ⟨.hbm, 307, rfl⟩
abbrev main_while0b_v220 : Ref sig .tc := ⟨.hbm, 308, rfl⟩
abbrev main_while0b_cst_73 : Ref sig .tc := ⟨.hbm, 309, rfl⟩
abbrev main_while0b_v221 : Ref sig .tc := ⟨.hbm, 310, rfl⟩
abbrev main_while0b_v222 : Ref sig .tc := ⟨.hbm, 311, rfl⟩
abbrev main_while0b_cst_74 : Ref sig .tc := ⟨.hbm, 312, rfl⟩
abbrev main_while0b_v223 : Ref sig .tc := ⟨.hbm, 313, rfl⟩
abbrev main_while0b_v224 : Ref sig .tc := ⟨.hbm, 314, rfl⟩
abbrev main_while0b_v225 : Ref sig .tc := ⟨.hbm, 315, rfl⟩
abbrev main_while0b_v226 : Ref sig .tc := ⟨.hbm, 316, rfl⟩
abbrev main_while0b_v227 : Ref sig .tc := ⟨.hbm, 317, rfl⟩
abbrev main_while0b_v228 : Ref sig .tc := ⟨.hbm, 318, rfl⟩
abbrev main_while0b_cst_75 : Ref sig .tc := ⟨.hbm, 319, rfl⟩
abbrev main_while0b_v229 : Ref sig .tc := ⟨.hbm, 320, rfl⟩
abbrev main_while0b_v230 : Ref sig .tc := ⟨.hbm, 321, rfl⟩
abbrev main_while0b_v231 : Ref sig .tc := ⟨.hbm, 322, rfl⟩
abbrev main_while0b_cst_76 : Ref sig .tc := ⟨.hbm, 323, rfl⟩
abbrev main_while0b_v232 : Ref sig .tc := ⟨.hbm, 324, rfl⟩
abbrev main_while0b_v233 : Ref sig .tc := ⟨.hbm, 325, rfl⟩
abbrev main_while0b_v234 : Ref sig .tc := ⟨.hbm, 326, rfl⟩
abbrev main_while0b_v235 : Ref sig .tc := ⟨.hbm, 327, rfl⟩
abbrev main_while0b_v236 : Ref sig .tc := ⟨.hbm, 328, rfl⟩
abbrev main_while0b_v237 : Ref sig .tc := ⟨.hbm, 329, rfl⟩
abbrev main_while0b_cst_77 : Ref sig .tc := ⟨.hbm, 330, rfl⟩
abbrev main_while0b_v238 : Ref sig .tc := ⟨.hbm, 331, rfl⟩
abbrev main_while0b_v239 : Ref sig .tc := ⟨.hbm, 332, rfl⟩
abbrev main_while0b_cst_78 : Ref sig .tc := ⟨.hbm, 333, rfl⟩
abbrev main_while0b_v240 : Ref sig .tc := ⟨.hbm, 334, rfl⟩
abbrev main_while0b_v241 : Ref sig .tc := ⟨.hbm, 335, rfl⟩
abbrev main_while0b_v242 : Ref sig .tc := ⟨.hbm, 336, rfl⟩
abbrev main_while0b_cst_79 : Ref sig .tc := ⟨.hbm, 337, rfl⟩
abbrev main_while0b_v243 : Ref sig .tc := ⟨.hbm, 338, rfl⟩
abbrev main_while0b_v244 : Ref sig .tc := ⟨.hbm, 339, rfl⟩
abbrev main_while0b_v245 : Ref sig .tc := ⟨.hbm, 340, rfl⟩
abbrev main_while0b_cst_80 : Ref sig .tc := ⟨.hbm, 341, rfl⟩
abbrev main_while0b_v246 : Ref sig .tc := ⟨.hbm, 342, rfl⟩
abbrev main_while0b_v247 : Ref sig .tc := ⟨.hbm, 343, rfl⟩
abbrev main_while0b_v248 : Ref sig .tc := ⟨.hbm, 344, rfl⟩
abbrev main_while0b_v249 : Ref sig .tc := ⟨.hbm, 345, rfl⟩
abbrev main_while0b_cst_81 : Ref sig .tc := ⟨.hbm, 346, rfl⟩
abbrev main_while0b_v250 : Ref sig .tc := ⟨.hbm, 347, rfl⟩
abbrev main_while0b_v251 : Ref sig .tc := ⟨.hbm, 348, rfl⟩
abbrev main_while0b_v252 : Ref sig .tc := ⟨.hbm, 349, rfl⟩
abbrev main_while0b_v253 : Ref sig .tc := ⟨.hbm, 350, rfl⟩
abbrev main_while0b_v254 : Ref sig .tc := ⟨.hbm, 351, rfl⟩
abbrev main_while0b_v255 : Ref sig .tc := ⟨.hbm, 352, rfl⟩
abbrev main_while0b_v256 : Ref sig .tc := ⟨.hbm, 353, rfl⟩
abbrev main_while0b_v257 : Ref sig .tc := ⟨.hbm, 354, rfl⟩
abbrev main_while0b_cst_82 : Ref sig .tc := ⟨.hbm, 355, rfl⟩
abbrev main_while0b_v258 : Ref sig .tc := ⟨.hbm, 356, rfl⟩
abbrev main_while0b_v259 : Ref sig .tc := ⟨.hbm, 357, rfl⟩
abbrev main_while0b_cst_83 : Ref sig .tc := ⟨.hbm, 358, rfl⟩
abbrev main_while0b_call4_v0 : Ref sig .tc := ⟨.hbm, 359, rfl⟩
abbrev main_while0b_call4_v1 : Ref sig .tc := ⟨.hbm, 360, rfl⟩
abbrev main_while0b_v260 : Ref sig .tc := ⟨.hbm, 361, rfl⟩
abbrev main_while0b_v261 : Ref sig .tc := ⟨.hbm, 362, rfl⟩
abbrev main_while0b_v262 : Ref sig .tc := ⟨.hbm, 363, rfl⟩
abbrev main_while0b_v263 : Ref sig .tc := ⟨.hbm, 364, rfl⟩
abbrev main_while0b_v264 : Ref sig .tc := ⟨.hbm, 365, rfl⟩
abbrev main_while0b_v265 : Ref sig .tc := ⟨.hbm, 366, rfl⟩
abbrev main_while0b_v266 : Ref sig .tc := ⟨.hbm, 367, rfl⟩
abbrev main_while0b_v267 : Ref sig .tc := ⟨.hbm, 368, rfl⟩
abbrev main_while0b_cst_84 : Ref sig .tc := ⟨.hbm, 369, rfl⟩
abbrev main_while0b_v268 : Ref sig .tc := ⟨.hbm, 370, rfl⟩
abbrev main_while0b_v269 : Ref sig .tc := ⟨.hbm, 371, rfl⟩
abbrev main_while0b_v270 : Ref sig .tc := ⟨.hbm, 372, rfl⟩
abbrev main_while0b_c_85 : Ref sig .tc := ⟨.hbm, 373, rfl⟩
abbrev main_while0b_v271 : Ref sig .tc := ⟨.hbm, 374, rfl⟩
abbrev main_v3 : Ref sig .tc := ⟨.hbm, 375, rfl⟩
abbrev main_cst_2 : Ref sig .tc := ⟨.hbm, 376, rfl⟩
abbrev main_v4 : Ref sig .tc := ⟨.hbm, 377, rfl⟩
abbrev main_v5 : Ref sig .tc := ⟨.hbm, 378, rfl⟩
abbrev main_v6 : Ref sig .tc := ⟨.hbm, 379, rfl⟩
abbrev main_v7 : Ref sig .tc := ⟨.hbm, 380, rfl⟩

abbrev nD : Nat := 1
abbrev τ : Topo := Topo.v7x

variable {F : FTy → Type} [FloatOps F]

abbrev main_while0_count : Scf.Loop 32 := ⟨0#32, 50#32, 1#32⟩
-- ==== Proof.Scalar.lean ====
/- The scalar laws the certificate rests on, at the ideal instance (extended reals): the reference's powers, its arc
   cosine and its step function of a sign against the square roots, the logarithm and the arc tangent the kernel calls. -/
module
public import Idealize.ShloMosaic.PureOps.Ideal.Laws
public import Idealize.ShloMosaic.Lib.Pointwise

@[expose] public section

set_option maxRecDepth 16384

noncomputable section

namespace Cert.Exit

open Idealize.ShloMosaic

/-- What an f32 literal of the programs denotes. -/
abbrev K (b : BitVec 32) : EReal := Ideal.ofBits .f32 b

/-- The magnitude of an extended real. -/
abbrev mag (z : EReal) : EReal := max z (-z)

theorem K_zero : K 0x00000000#32 = 0 := Ideal.ofBits_zero_f32
theorem K_one : K 0x3F800000#32 = 1 := IdealRules.sign_bit.ideal_onePat .f32
theorem K_two : K 0x40000000#32 = ((2 : ℝ) : EReal) := by
  simp [K, Ideal.ofBits, Ideal.ieee, -EReal.coe_mul]; norm_num
theorem K_half : K 0x3F000000#32 = ((1 / 2 : ℝ) : EReal) := by
  simp [K, Ideal.ofBits, Ideal.ieee, -EReal.coe_mul]; norm_num
theorem K_threeHalf : K 0x3FC00000#32 = ((3 / 2 : ℝ) : EReal) := by
  simp [K, Ideal.ofBits, Ideal.ieee, -EReal.coe_mul]; norm_num
theorem K_third : K 0x3EAAAAAB#32 = ((11184811 / 33554432 : ℝ) : EReal) := by
  simp [K, Ideal.ofBits, Ideal.ieee, -EReal.coe_mul]; norm_num
theorem K_hi : K 0x3F7FFFEF#32 = ((16777199 / 16777216 : ℝ) : EReal) := by
  simp [K, Ideal.ofBits, Ideal.ieee, -EReal.coe_mul]; norm_num
theorem K_lo : K 0xBF7FFFEF#32 = ((-(16777199 / 16777216) : ℝ) : EReal) := by
  simp [K, Ideal.ofBits, Ideal.ieee, -EReal.coe_mul]; norm_num

theorem mag_nonneg (z : EReal) : 0 ≤ mag z := by
  rcases le_total 0 z with h | h
  · exact le_max_of_le_left h
  · exact le_max_of_le_right (EReal.neg_nonneg.mpr h)

/-- A nonnegative extended real is the top or a nonnegative real. -/
theorem nonneg_cases {a : EReal} (h : 0 ≤ a) : a = ⊤ ∨ ∃ r : ℝ, 0 ≤ r ∧ a = r := by
  induction a with
  | bot => simp at h
  | top => exact .inl rfl
  | coe r => exact .inr ⟨r, EReal.coe_nonneg.mp h, rfl⟩

theorem pow_coe (x y : ℝ) : Ideal.pow (x : EReal) (y : EReal) = ((x ^ y : ℝ) : EReal) := rfl
theorem pow_top (y : EReal) : Ideal.pow ⊤ y = if 0 < y then ⊤ else if y = 0 then 1 else 0 := by cases y <;> rfl

/-- The power one half of a nonnegative number is its square root. -/
theorem pow_half {a : EReal} (h : 0 ≤ a) : Ideal.pow a (K 0x3F000000#32) = Ideal.sqrt a := by
  rw [K_half]
  rcases nonneg_cases h with rfl | ⟨r, hr, rfl⟩
  · have : (0 : EReal) < ((1 / 2 : ℝ) : EReal) := EReal.coe_pos.mpr (by norm_num)
    rw [pow_top, if_pos this, Ideal.sqrt_top]
  · rw [pow_coe, Ideal.sqrt_coe, if_neg (not_lt.mpr hr), Real.sqrt_eq_rpow]

/-- The power three halves of a nonnegative number is the number times its square root. -/
theorem pow_threeHalf {a : EReal} (h : 0 ≤ a) : Ideal.pow a (K 0x3FC00000#32) = a * Ideal.sqrt a := by
  rw [K_threeHalf]
  rcases nonneg_cases h with rfl | ⟨r, hr, rfl⟩
  · have : (0 : EReal) < ((3 / 2 : ℝ) : EReal) := EReal.coe_pos.mpr (by norm_num)
    rw [pow_top, if_pos this, Ideal.sqrt_top, EReal.top_mul_top]
  · rw [pow_coe, Ideal.sqrt_coe, if_neg (not_lt.mpr hr), ← EReal.coe_mul, Real.sqrt_eq_rpow]
    congr 1
    rcases hr.eq_or_lt with rfl | hp
    · rw [Real.zero_rpow (by norm_num), zero_mul]
    · rw [show (3 / 2 : ℝ) = 1 + 1 / 2 by norm_num, Real.rpow_add hp, Real.rpow_one]

/-- The power of a nonnegative number by the f32 literal of one third is the exponential of its logarithm times that
    literal; at zero both are zero, at the top both are the top. -/
theorem pow_third {a : EReal} (h : 0 ≤ a) :
    Ideal.pow a (K 0x3EAAAAAB#32) = Ideal.exp (Ideal.log a * K 0x3EAAAAAB#32) := by
  rw [K_third]
  have hc : (0 : EReal) < ((11184811 / 33554432 : ℝ) : EReal) := EReal.coe_pos.mpr (by norm_num)
  rcases nonneg_cases h with rfl | ⟨r, hr, rfl⟩
  · rw [pow_top, if_pos hc, Ideal.log_top, EReal.top_mul_of_pos hc, Ideal.exp_top]
  · rcases hr.eq_or_lt with rfl | hp
    · rw [pow_coe, Real.zero_rpow (by norm_num), Ideal.log_coe, if_pos le_rfl, EReal.bot_mul_of_pos hc, Ideal.exp_bot,
        EReal.coe_zero]
    · rw [pow_coe, Ideal.log_coe, if_neg (not_le.mpr hp), ← EReal.coe_mul, Ideal.exp_coe, Real.rpow_def_of_pos hp]

/-- The arc cosine of a real strictly between `-1` and `1` by the half angle: `2 · arctan (√(1 - r²) / (1 + r))`. -/
theorem arccos_half {r : ℝ} (h1 : -1 < r) (h2 : r < 1) :
    Real.arccos r = 2 * Real.arctan (Real.sqrt (1 - r * r) / (1 + r)) := by
  have hx : 0 < 1 + r := by linarith
  set θ := Real.arccos r with hθ
  have hc : Real.cos θ = r := Real.cos_arccos h1.le h2.le
  have hs : Real.sin θ = Real.sqrt (1 - r * r) := by rw [hθ, Real.sin_arccos]; congr 1; ring
  have h0 : 0 ≤ θ := Real.arccos_nonneg r
  have hpi : θ < Real.pi := by
    refine lt_of_le_of_ne (Real.arccos_le_pi r) fun h => ?_
    rw [h, Real.cos_pi] at hc; linarith
  have hcos2 : 0 < Real.cos (θ / 2) := Real.cos_pos_of_mem_Ioo ⟨by linarith [Real.pi_pos], by linarith⟩
  have ht : Real.tan (θ / 2) = Real.sqrt (1 - r * r) / (1 + r) := by
    rw [← hs, ← hc, Real.tan_eq_sin_div_cos]
    have e1 : Real.sin θ = 2 * Real.sin (θ / 2) * Real.cos (θ / 2) := by
      rw [← Real.sin_two_mul]; congr 1; ring
    have e2 : Real.cos θ = 2 * Real.cos (θ / 2) ^ 2 - 1 := by
      rw [← Real.cos_two_mul]; congr 1; ring
    rw [e1, e2]; field_simp; ring
  rw [← ht, Real.arctan_tan (by linarith) (by linarith)]; ring

/-- The value `clip z lo hi` is a real between the two bounds, whatever `z` is. -/
theorem clip_cases (z : EReal) : ∃ r : ℝ, -1 < r ∧ r < 1 ∧ min (K 0x3F7FFFEF#32) (max (K 0xBF7FFFEF#32) z) = r := by
  rw [K_hi, K_lo]
  induction z with
  | bot => exact ⟨-(16777199 / 16777216), by norm_num, by norm_num, by
      rw [max_eq_left bot_le, min_eq_right]; exact EReal.coe_le_coe_iff.mpr (by norm_num)⟩
  | top => exact ⟨16777199 / 16777216, by norm_num, by norm_num, by rw [max_eq_right le_top, min_eq_left le_top]⟩
  | coe r =>
    refine ⟨min (16777199 / 16777216) (max (-(16777199 / 16777216)) r), ?_, ?_, ?_⟩
    · exact lt_min (by norm_num) (lt_max_of_lt_left (by norm_num))
    · exact min_lt_of_left_lt (by norm_num)
    · norm_cast

theorem atan2_coe (y x : ℝ) : Ideal.atan2 (y : EReal) (x : EReal) =
    ((if 0 < x then Real.arctan (y / x)
      else if x < 0 then (if 0 ≤ y then Real.arctan (y / x) + Real.pi else Real.arctan (y / x) - Real.pi)
      else if 0 < y then Real.pi / 2 else if y < 0 then -(Real.pi / 2) else 0 : ℝ) : EReal) := rfl

/-- The reference's `arccos` of a clipped argument is the kernel's half-angle form over `arctan2`. -/
theorem acos_clip (z : EReal) :
    let t := min (K 0x3F7FFFEF#32) (max (K 0xBF7FFFEF#32) z)
    Ideal.acos t = K 0x40000000#32 * Ideal.atan2 (Ideal.sqrt (K 0x3F800000#32 - t * t)) (K 0x3F800000#32 + t) := by
  obtain ⟨r, h1, h2, hr⟩ := clip_cases z
  intro t
  have ht : t = (r : EReal) := hr
  rw [ht, K_two, K_one]
  have e1 : (1 : EReal) - (r : EReal) * r = ((1 - r * r : ℝ) : EReal) := by norm_cast
  have e2 : (1 : EReal) + (r : EReal) = ((1 + r : ℝ) : EReal) := by norm_cast
  have hn : ¬ (1 - r * r < 0) := by nlinarith
  have hp : 0 < 1 + r := by linarith
  rw [e1, e2]
  rw [Ideal.acos_coe, if_pos (And.intro h1.le h2.le), Ideal.sqrt_coe, if_neg hn, atan2_coe, if_pos hp, ← EReal.coe_mul,
    arccos_half h1 h2]

/-- The step function of a sign, `ceil ((sign z + 1) / 2)`, at an extended real: `0` below zero, `1` from zero on. -/
theorem ceil_sign (z : EReal) :
    Ideal.liftRound Int.ceil (Ideal.div (Ideal.sign z + K 0x3F800000#32) (K 0x40000000#32)) = if z < 0 then 0 else 1 := by
  rw [K_two, K_one]
  have h2 : ((2 : ℝ) : EReal) ≠ 0 := by norm_num
  have hinv : (((2 : ℝ) : EReal))⁻¹ = ((2⁻¹ : ℝ) : EReal) := (EReal.coe_inv 2).symm
  rcases lt_trichotomy z 0 with h | rfl | h
  · rw [if_pos h, Ideal.sign_of_neg h, Ideal.div, if_neg h2, hinv]
    have e : (-1 : EReal) + 1 = 0 := by
      rw [← EReal.coe_one, ← EReal.coe_neg, ← EReal.coe_add, ← EReal.coe_zero]; norm_num
    rw [e, zero_mul, ← EReal.coe_zero, Ideal.liftRound_coe, Int.ceil_zero, Int.cast_zero]
  · rw [if_neg (lt_irrefl _), Ideal.sign_zero, Ideal.div, if_neg h2, hinv, zero_add, one_mul, Ideal.liftRound_coe]
    have e : ⌈(2⁻¹ : ℝ)⌉ = 1 := by rw [Int.ceil_eq_iff]; norm_num
    rw [e, Int.cast_one, EReal.coe_one]
  · rw [if_neg (not_lt.mpr h.le), Ideal.sign_of_pos h, Ideal.div, if_neg h2, hinv]
    have e : (1 : EReal) + 1 = ((2 : ℝ) : EReal) := by
      rw [← EReal.coe_one, ← EReal.coe_add]; norm_num
    rw [e, ← EReal.coe_mul, mul_inv_cancel₀ (by norm_num), Ideal.liftRound_coe, Int.ceil_one, Int.cast_one, EReal.coe_one]

end Cert.Exit
-- ==== Proof.Rho.lean ====
/- The root of the exit quartic as one function of a row's point, drift and noise, in the order the programs spell it. -/
module
public import proofs.«01_k».proof.Proof.Scalar

@[expose] public section

noncomputable section

namespace Cert.Exit

open Idealize.ShloMosaic

/-! The quartic's coefficients `a` to `e`, from the point `x`, the drift `dr` and the noise `f`. -/

def cA (dr0 dr1 : EReal) : EReal := dr0 * dr0 + dr1 * dr1
def cB (dr0 dr1 f0 f1 : EReal) : EReal := K 0x40000000#32 * (dr0 * f0 + dr1 * f1)
def cC (x0 x1 dr0 dr1 f0 f1 : EReal) : EReal :=
  (K 0x40000000#32 * dr0 * x0 + f0 * f0) + (K 0x40000000#32 * dr1 * x1 + f1 * f1)
def cD (x0 x1 f0 f1 : EReal) : EReal := K 0x40000000#32 * (f0 * x0 + f1 * x1)
def cE (x0 x1 : EReal) : EReal := (x0 * x0 + x1 * x1) - K 0x3F800000#32

/-! The depressed quartic's `p` and `q` and the resolvent's invariants. -/

def gP (a b c : EReal) : EReal :=
  Ideal.div (K 0x41000000#32 * a * c - K 0x40400000#32 * (b * b)) (K 0x41000000#32 * (a * a))
def gQ (a b c d : EReal) : EReal :=
  Ideal.div ((b * (b * b) - K 0x40800000#32 * a * b * c) + K 0x41000000#32 * (a * a) * d) (K 0x41000000#32 * (a * (a * a)))
def gD0 (a b c d e : EReal) : EReal := (c * c - K 0x40400000#32 * b * d) + K 0x41400000#32 * a * e
def gD1 (a b c d e : EReal) : EReal :=
  (((K 0x40000000#32 * (c * (c * c)) - K 0x41100000#32 * b * c * d) + K 0x41D80000#32 * (b * b) * e)
    + K 0x41D80000#32 * a * (d * d)) - K 0x42900000#32 * a * c * e
def gD2 (D0 D1 : EReal) : EReal := D1 * D1 - K 0x40800000#32 * (D0 * (D0 * D0))

/-- The step function of a sign as the programs spell it. -/
def gStep (z : EReal) : EReal := Ideal.liftRound Int.ceil (Ideal.div (Ideal.sign z + K 0x3F800000#32) (K 0x40000000#32))

/-! The resolvent's two branches, by radicals and by the cosine. -/

def gQQ (D1 D2 : EReal) : EReal := Ideal.div (D1 + Ideal.sqrt (mag D2)) (K 0x40000000#32)
def gCbrt (z : EReal) : EReal := Ideal.sign z * Ideal.exp (Ideal.log (mag z) * K 0x3EAAAAAB#32)
def gPlus (a p D0 w : EReal) : EReal :=
  K 0x3F000000#32 * Ideal.sqrt (mag (Ideal.div (w + Ideal.div D0 w) (K 0x40400000#32 * a)
    - Ideal.div (K 0x40000000#32 * p) (K 0x40400000#32)))
def gT (D0 D1 : EReal) : EReal :=
  min (K 0x3F7FFFEF#32) (max (K 0xBF7FFFEF#32) (Ideal.div (Ideal.div D1 (K 0x40000000#32)) (mag D0 * Ideal.sqrt (mag D0))))
def gPhi (t : EReal) : EReal :=
  K 0x40000000#32 * Ideal.atan2 (Ideal.sqrt (K 0x3F800000#32 - t * t)) (K 0x3F800000#32 + t)
def gMinus (a p D0 phi : EReal) : EReal :=
  K 0x3F000000#32 * Ideal.sqrt (mag (Ideal.div (K 0x40000000#32 * Ideal.sqrt (mag D0)
      * Ideal.cos (Ideal.div phi (K 0x40400000#32))) (K 0x40400000#32 * a)
    - Ideal.div (K 0x40000000#32 * p) (K 0x40400000#32)))
def gMix (sig sp sm : EReal) : EReal := sig * sp + (K 0x3F800000#32 - sig) * sm

/-! The two candidate roots and the choice between them. -/

def gBase (p S : EReal) : EReal := K 0xC0800000#32 * (S * S) - K 0x40000000#32 * p
def gR1 (a b p q sq S : EReal) : EReal :=
  (K 0x3F000000#32 * Ideal.sqrt (mag (gBase p S + mag (Ideal.div q S))) - Ideal.div b (K 0x40800000#32 * a)) - sq * S
def gR2 (a b p q sq S : EReal) : EReal :=
  (K 0x3F000000#32 * Ideal.sqrt (mag (gBase p S - mag (Ideal.div q S))) - Ideal.div b (K 0x40800000#32 * a)) + sq * S
def gPick (r1 r2 : EReal) : EReal :=
  Scalar.select (Ideal.cmp .olt ((K 0x3F800000#32 - r1) * r1) (K 0x00000000#32)) r2 r1
def gSq (z : EReal) : EReal := z * z

/-- The resolvent's root `S` from the coefficients. -/
def gS (a b c d e : EReal) : EReal :=
  gMix (gStep (gD2 (gD0 a b c d e) (gD1 a b c d e)))
    (gPlus a (gP a b c) (gD0 a b c d e) (gCbrt (gQQ (gD1 a b c d e) (gD2 (gD0 a b c d e) (gD1 a b c d e)))))
    (gMinus a (gP a b c) (gD0 a b c d e) (gPhi (gT (gD0 a b c d e) (gD1 a b c d e))))

/-- The fraction `rho` of the step at which the row leaves the ball, from the quartic's coefficients. -/
def gRho (a b c d e : EReal) : EReal :=
  gSq (gPick (gR1 a b (gP a b c) (gQ a b c d) (Ideal.sign (gQ a b c d)) (gS a b c d e))
    (gR2 a b (gP a b c) (gQ a b c d) (Ideal.sign (gQ a b c d)) (gS a b c d e)))

/-- The same from the row's point, drift and noise. -/
def rho (x0 x1 dr0 dr1 f0 f1 : EReal) : EReal :=
  gRho (cA dr0 dr1) (cB dr0 dr1 f0 f1) (cC x0 x1 dr0 dr1 f0 f1) (cD x0 x1 f0 f1) (cE x0 x1)

/-- The square root guarded at the nonpositive numbers. -/
def gRoot (z : EReal) : EReal := Ideal.sqrt (if 0 < z then z else 1) * (if 0 < z then 1 else 0)

/-- One drift coordinate of a step from `x`. -/
def drift (u x : EReal) : EReal := u * x * K 0x3B83126F#32
/-- One noise coordinate of a step. -/
def noise (d : EReal) : EReal := K 0x3FB504F3#32 * d
/-- The running reward at a point. -/
def reward (u x0 x1 : EReal) : EReal := (u * u + K 0x40000000#32) * (x0 * x0 + x1 * x1) - K 0x40800000#32
/-- How far outside the ball a point lies. -/
def outside (x0 x1 : EReal) : EReal := (x0 * x0 + x1 * x1) - K 0x3F800000#32

end Cert.Exit
-- ==== Proof.KRow.lean ====
/- The kernel at one row: one trip of its walk and its closing formula, as functions of the row's carried numbers. -/
module
public import proofs.«01_k».proof.Proof.Gen.KernelIdeal.Skeleton
public import proofs.«01_k».proof.Proof.Rho

@[expose] public section

set_option maxRecDepth 16384

noncomputable section

namespace Cert.Exit.Ker

open Idealize.ShloMosaic Cert.KernelIdeal Cert.KernelIdeal.Gen

/-- What the kernel carries of one row: the point, whether the walk goes on, the integral, the discount, and the noise
    and discount of the step that left the ball. -/
@[ext] structure Row where
  x0 : EReal
  x1 : EReal
  flag : EReal
  y : EReal
  disc : EReal
  f0 : EReal
  f1 : EReal
  de : EReal

/-- The one-bit words of the kernel's two cases: the row's walk goes on and stays inside, or leaves the ball. -/
def stays (u d0 d1 : EReal) (k : Row) : BitVec 1 :=
  IntOp.andi (Ideal.cmp .ogt k.flag (K 0x00000000#32))
    (Ideal.cmp .olt (outside (k.x0 + drift u k.x0 + noise d0) (k.x1 + drift u k.x1 + noise d1)) (K 0x00000000#32))
def leaves (u d0 d1 : EReal) (k : Row) : BitVec 1 :=
  IntOp.andi (Ideal.cmp .ogt k.flag (K 0x00000000#32))
    (Ideal.cmp .oge (outside (k.x0 + drift u k.x0 + noise d0) (k.x1 + drift u k.x1 + noise d1)) (K 0x00000000#32))

/-- One trip of a row. -/
def next (u d0 d1 : EReal) (k : Row) : Row where
  x0 := Scalar.select (stays u d0 d1 k) (k.x0 + drift u k.x0 + noise d0) k.x0
  x1 := Scalar.select (stays u d0 d1 k) (k.x1 + drift u k.x1 + noise d1) k.x1
  flag := Scalar.select (stays u d0 d1 k) (K 0x3F800000#32) (K 0x00000000#32)
  y := Scalar.select (stays u d0 d1 k) (k.y + reward u k.x0 k.x1 * K 0x3B83126F#32 * k.disc) k.y
  disc := k.disc * Ideal.exp (K 0xBB83126F#32 * K 0x3F800000#32)
  f0 := Scalar.select (leaves u d0 d1 k) (noise d0) k.f0
  f1 := Scalar.select (leaves u d0 d1 k) (noise d1) k.f1
  de := Scalar.select (leaves u d0 d1 k) k.disc k.de

/-- A carried tuple read at one row. -/
def row (a : FVec Ideal S32x128 .f32 × FVec Ideal S32x128 .f32 × FVec Ideal S32x128 .f32 × FVec Ideal S32x128 .f32 ×
    FVec Ideal S32x128 .f32 × FVec Ideal S32x128 .f32 × FVec Ideal S32x128 .f32 × FVec Ideal S32x128 .f32)
    (p : S32x128.Idx) : Row where
  x0 := a.1 p
  x1 := a.2.1 p
  flag := a.2.2.1 p
  y := a.2.2.2.1 p
  disc := a.2.2.2.2.1 p
  f0 := a.2.2.2.2.2.1 p
  f1 := a.2.2.2.2.2.2.1 p
  de := a.2.2.2.2.2.2.2 p

/-- The fraction of the leaving step, from what the row carries at the end. -/
def rhoOf (u : EReal) (k : Row) : EReal := rho k.x0 k.x1 (drift u k.x0) (drift u k.x1) k.f0 k.f1

/-- The leaving point's coordinates and discount, the integral up to it, and the row's result. -/
def out0 (u : EReal) (k : Row) : EReal := k.x0 + drift u k.x0 * rhoOf u k + k.f0 * gRoot (rhoOf u k)
def out1 (u : EReal) (k : Row) : EReal := k.x1 + drift u k.x1 * rhoOf u k + k.f1 * gRoot (rhoOf u k)
def outDisc (u : EReal) (k : Row) : EReal := k.de * Ideal.exp (K 0xBB83126F#32 * rhoOf u k)
def outY (u : EReal) (k : Row) : EReal := k.y + rhoOf u k * reward u k.x0 k.x1 * K 0x3B83126F#32 * k.de
def result (u : EReal) (k : Row) : EReal :=
  Scalar.select (Ideal.cmp .ogt k.flag (K 0x00000000#32))
    (k.y + k.disc * (k.x0 * k.x0 + k.x1 * k.x1))
    (outY u k + outDisc u k * (out0 u k * out0 u k + out1 u k * out1 u k))

/-! ## The trip's payloads at a row -/

section Trip
variable (u : EReal) (a0 a1 a2 a3 a4 a5 a6 a7 : FVec Ideal S32x128 .f32) (w0 w1 : FVec Ideal S1x1x32x128 .f32)
  (p : Fin 32) (l : Fin 128)

/-- The noise block of one trip, as a plane. -/
theorem plane_at (h : S1x1x32x128.ShapeCasts S32x128) (w : FVec Ideal S1x1x32x128 .f32) :
    shapeCast S32x128 w h (ix2 p l) = w (ix4 0 0 p l) := by
  pointwise

theorem noise0_at : k0_pay2 (F := Ideal) w0 (ix2 p l) = noise (w0 (ix4 0 0 p l)) := by
  rw [← plane_at p l shapeCasts_S1x1x32x128_S32x128 w0]; rfl
theorem noise1_at : k0_pay3 (F := Ideal) w1 (ix2 p l) = noise (w1 (ix4 0 0 p l)) := by
  rw [← plane_at p l shapeCasts_S1x1x32x128_S32x128 w1]; rfl

theorem try0_at : k0_pay4 (F := Ideal) u a0 w0 (ix2 p l) = a0 (ix2 p l) + drift u (a0 (ix2 p l)) + noise (w0 (ix4 0 0 p l)) := by
  rw [← noise0_at]; rfl
theorem try1_at : k0_pay5 (F := Ideal) u a1 w1 (ix2 p l) = a1 (ix2 p l) + drift u (a1 (ix2 p l)) + noise (w1 (ix4 0 0 p l)) := by
  rw [← noise1_at]; rfl

theorem outside_at : k0_pay6 (F := Ideal) u a0 a1 w0 w1 (ix2 p l)
    = outside (a0 (ix2 p l) + drift u (a0 (ix2 p l)) + noise (w0 (ix4 0 0 p l)))
        (a1 (ix2 p l) + drift u (a1 (ix2 p l)) + noise (w1 (ix4 0 0 p l))) := by
  rw [← try0_at, ← try1_at]; rfl

theorem leaves_at : k0_pay8 (F := Ideal) u a0 a1 a2 w0 w1 (ix2 p l)
    = leaves u (w0 (ix4 0 0 p l)) (w1 (ix4 0 0 p l)) (row (a0, a1, a2, a3, a4, a5, a6, a7) (ix2 p l)) := by
  unfold leaves row
  dsimp only
  rw [← outside_at]
  rfl

theorem stays_at : k0_pay9 (F := Ideal) u a0 a1 a2 w0 w1 (ix2 p l)
    = stays u (w0 (ix4 0 0 p l)) (w1 (ix4 0 0 p l)) (row (a0, a1, a2, a3, a4, a5, a6, a7) (ix2 p l)) := by
  unfold stays row
  dsimp only
  rw [← outside_at]
  rfl

/-- One trip's yield at a row is `next` of the row. -/
theorem next_at :
    row (k0_pay20 a0 (k0_pay4 u a0 w0) (k0_pay9 u a0 a1 a2 w0 w1),
        k0_pay21 a1 (k0_pay5 u a1 w1) (k0_pay9 u a0 a1 a2 w0 w1),
        k0_pay23 (k0_pay9 u a0 a1 a2 w0 w1),
        k0_pay16 a3 a4 (k0_pay9 u a0 a1 a2 w0 w1) (k0_pay10 u a0 a1) k0_pay11,
        k0_pay22 a4,
        k0_pay17 a5 (k0_pay2 w0) (k0_pay8 u a0 a1 a2 w0 w1),
        k0_pay18 a6 (k0_pay3 w1) (k0_pay8 u a0 a1 a2 w0 w1),
        k0_pay19 a4 a7 (k0_pay8 u a0 a1 a2 w0 w1)) (ix2 p l)
      = next u (w0 (ix4 0 0 p l)) (w1 (ix4 0 0 p l)) (row (a0, a1, a2, a3, a4, a5, a6, a7) (ix2 p l)) := by
  unfold next
  rw [← stays_at, ← leaves_at, ← noise0_at, ← noise1_at]
  have t0 := try0_at u a0 w0 p l
  have t1 := try1_at u a1 w1 p l
  rw [← noise0_at] at t0
  rw [← noise1_at] at t1
  generalize k0_pay9 (F := Ideal) u a0 a1 a2 w0 w1 = S
  generalize k0_pay8 (F := Ideal) u a0 a1 a2 w0 w1 = L
  generalize k0_pay4 (F := Ideal) u a0 w0 = T0 at t0 ⊢
  generalize k0_pay5 (F := Ideal) u a1 w1 = T1 at t1 ⊢
  generalize k0_pay2 (F := Ideal) w0 = N0 at t0 ⊢
  generalize k0_pay3 (F := Ideal) w1 = N1 at t1 ⊢
  unfold row
  dsimp only
  rw [← t0, ← t1]
  rfl

end Trip

end Cert.Exit.Ker
-- ==== Proof.KTail.lean ====
/- The kernel's closing formula at one row: the payloads after the walk, read off the vectors the walk leaves. -/
module
public import proofs.«01_k».proof.Proof.KRow

@[expose] public section

set_option maxRecDepth 16384

noncomputable section

namespace Cert.Exit.Ker

open Idealize.ShloMosaic Cert.KernelIdeal Cert.KernelIdeal.Gen

local notation "V" => FVec Idealize.ShloMosaic.Ideal S32x128 FTy.f32

/-! ## Each payload at an index -/

section Stages
variable (u : EReal) (a0 a1 a5 a6 A B c1 c2 C D E P Q SQ D0 D1 D2 G W T N R : V) (p : S32x128.Idx)

theorem A_at : k0_pay26 (F := Ideal) u a0 a1 p = cA (drift u (a0 p)) (drift u (a1 p)) := rfl
theorem B_at : k0_pay27 (F := Ideal) u a0 a1 a5 a6 p = cB (drift u (a0 p)) (drift u (a1 p)) (a5 p) (a6 p) := rfl
theorem C_at : k0_pay30 (F := Ideal) (k0_pay28 (F := Ideal) u a0 a5) (k0_pay29 (F := Ideal) u a1 a6) p
    = cC (a0 p) (a1 p) (drift u (a0 p)) (drift u (a1 p)) (a5 p) (a6 p) := rfl
theorem D_at : k0_pay31 (F := Ideal) a0 a1 a5 a6 p = cD (a0 p) (a1 p) (a5 p) (a6 p) := rfl
theorem E_at : k0_pay32 (F := Ideal) a0 a1 p = cE (a0 p) (a1 p) := rfl
theorem P_at : k0_pay33 (F := Ideal) A B c1 c2 p = gP (A p) (B p) (k0_pay30 (F := Ideal) c1 c2 p) := rfl
theorem Q_at : k0_pay34 (F := Ideal) a0 a1 a5 a6 A B c1 c2 p
    = gQ (A p) (B p) (k0_pay30 (F := Ideal) c1 c2 p) (k0_pay31 (F := Ideal) a0 a1 a5 a6 p) := rfl
theorem SQ_at : k0_pay35 (F := Ideal) a0 a1 a5 a6 A B c1 c2 p
    = Ideal.sign (k0_pay34 (F := Ideal) a0 a1 a5 a6 A B c1 c2 p) := by
  rw [← Ideal.jnp_sign_eq_sign_f32]
  unfold k0_pay35
  generalize k0_pay34 (F := Ideal) a0 a1 a5 a6 A B c1 c2 = Q
  rfl
theorem D0_at : k0_pay38 (F := Ideal) A B D E (k0_pay36 (F := Ideal) c1 c2) (k0_pay37 (F := Ideal)) p
    = gD0 (A p) (B p) (k0_pay30 (F := Ideal) c1 c2 p) (D p) (E p) := rfl
theorem D1_at : k0_pay39 (F := Ideal) A B C D E p = gD1 (A p) (B p) (C p) (D p) (E p) := rfl
theorem D2_at : k0_pay40 (F := Ideal) A B C D E c1 c2 p
    = gD2 (k0_pay38 (F := Ideal) A B D E c1 c2 p) (k0_pay39 (F := Ideal) A B C D E p) := rfl
theorem G_at : k0_pay42 (F := Ideal) (k0_pay41 (F := Ideal) A B C D E c1 c2) p
    = gStep (k0_pay40 (F := Ideal) A B C D E c1 c2 p) := by
  unfold gStep
  rw [← Ideal.jnp_sign_eq_sign_f32]
  unfold k0_pay42 k0_pay41
  generalize k0_pay40 (F := Ideal) A B C D E c1 c2 = Z
  rfl
theorem W_at : k0_pay43 (F := Ideal) A P D0 D1 D2 p
    = gPlus (A p) (P p) (D0 p) (gCbrt (gQQ (D1 p) (D2 p))) := by
  unfold gCbrt
  rw [← Ideal.jnp_sign_eq_sign_f32]
  rfl
theorem S_at : k0_pay48 (F := Ideal) A P G W (k0_pay45 (F := Ideal) D0) (k0_pay46 (F := Ideal) D0 D1)
      (k0_pay47 (F := Ideal) D0 D1) p
    = gMix (G p) (W p) (gMinus (A p) (P p) (D0 p) (gPhi (gT (D0 p) (D1 p)))) := rfl
theorem R1_at : k0_pay49 (F := Ideal) A B P Q SQ G W T N R p
    = gR1 (A p) (B p) (P p) (Q p) (SQ p) (k0_pay48 (F := Ideal) A P G W T N R p) := rfl
theorem rho_stage : k0_pay50 (F := Ideal) A B P Q SQ W R p
    = gSq (gPick (R p) (gR2 (A p) (B p) (P p) (Q p) (SQ p) (W p))) := rfl
theorem reward_at : k0_pay51 (F := Ideal) u a0 a1 p = reward u (a0 p) (a1 p) := rfl

/-- The kernel's guarded root: its mask read as a number is the indicator. -/
theorem root_at : k0_pay52 (F := Ideal) A B P Q SQ W R p = gRoot (k0_pay50 (F := Ideal) A B P Q SQ W R p) := by
  unfold k0_pay52
  generalize k0_pay50 (F := Ideal) A B P Q SQ W R = Z
  show Ideal.sqrt (Scalar.select (Ideal.cmp .ogt (Z p) (K 0x00000000#32)) (Z p) (K 0x3F800000#32))
    * ((((Ideal.cmp .ogt (Z p) (K 0x00000000#32)).setWidth 32 : BitVec 32).toInt : ℝ) : EReal) = _
  unfold gRoot
  rw [K_zero, K_one]
  by_cases h : 0 < Z p
  · have hc : Ideal.cmp .ogt (Z p) 0 = 1#1 := by simp [Ideal.cmp, h]
    rw [hc, if_pos h, if_pos h]
    simp [Scalar.select]
  · have hc : Ideal.cmp .ogt (Z p) 0 = 0#1 := by simp [Ideal.cmp, h]
    rw [hc, if_neg h, if_neg h]
    simp [Scalar.select]

end Stages

/-! ## The closing formula -/

section Closing
variable {u : EReal} {a0 a1 a2 a3 a4 a5 a6 a7 A B c1 c2 C D E P Q SQ n88 n89 D0 D1 D2 n140 G W N T M S R : V}

/-- The fraction of the leaving step, over the walk's vectors. -/
theorem rho_at (p : S32x128.Idx)
    (hA : A = k0_pay26 (F := Ideal) u a0 a1) (hB : B = k0_pay27 (F := Ideal) u a0 a1 a5 a6)
    (h1 : c1 = k0_pay28 (F := Ideal) u a0 a5) (h2 : c2 = k0_pay29 (F := Ideal) u a1 a6)
    (hC : C = k0_pay30 (F := Ideal) c1 c2) (hD : D = k0_pay31 (F := Ideal) a0 a1 a5 a6)
    (hE : E = k0_pay32 (F := Ideal) a0 a1) (hP : P = k0_pay33 (F := Ideal) A B c1 c2)
    (hQ : Q = k0_pay34 (F := Ideal) a0 a1 a5 a6 A B c1 c2) (hSQ : SQ = k0_pay35 (F := Ideal) a0 a1 a5 a6 A B c1 c2)
    (h88 : n88 = k0_pay36 (F := Ideal) c1 c2) (h89 : n89 = k0_pay37 (F := Ideal))
    (hD0 : D0 = k0_pay38 (F := Ideal) A B D E n88 n89) (hD1 : D1 = k0_pay39 (F := Ideal) A B C D E)
    (hD2 : D2 = k0_pay40 (F := Ideal) A B C D E n88 n89) (h140 : n140 = k0_pay41 (F := Ideal) A B C D E n88 n89)
    (hG : G = k0_pay42 (F := Ideal) n140) (hW : W = k0_pay43 (F := Ideal) A P D0 D1 D2)
    (hN : N = k0_pay45 (F := Ideal) D0) (hT : T = k0_pay46 (F := Ideal) D0 D1) (hM : M = k0_pay47 (F := Ideal) D0 D1)
    (hS : S = k0_pay48 (F := Ideal) A P G W N T M) (hR : R = k0_pay49 (F := Ideal) A B P Q SQ G W N T M) :
    k0_pay50 (F := Ideal) A B P Q SQ S R p = rhoOf u (row (a0, a1, a2, a3, a4, a5, a6, a7) p) := by
  have eA : A p = cA (drift u (a0 p)) (drift u (a1 p)) := by rw [hA, A_at]
  have eB : B p = cB (drift u (a0 p)) (drift u (a1 p)) (a5 p) (a6 p) := by rw [hB, B_at]
  have eC : C p = cC (a0 p) (a1 p) (drift u (a0 p)) (drift u (a1 p)) (a5 p) (a6 p) := by rw [hC, h1, h2, C_at]
  have eD : D p = cD (a0 p) (a1 p) (a5 p) (a6 p) := by rw [hD, D_at]
  have eE : E p = cE (a0 p) (a1 p) := by rw [hE, E_at]
  have eP : P p = gP (A p) (B p) (C p) := by rw [hP, P_at, hC]
  have eQ : Q p = gQ (A p) (B p) (C p) (D p) := by rw [hQ, Q_at, hC, hD]
  have eSQ : SQ p = Ideal.sign (Q p) := by rw [hSQ, SQ_at, hQ]
  have eD0 : D0 p = gD0 (A p) (B p) (C p) (D p) (E p) := by rw [hD0, h88, h89, D0_at, hC]
  have eD1 : D1 p = gD1 (A p) (B p) (C p) (D p) (E p) := by rw [hD1, D1_at]
  have eD2 : D2 p = gD2 (D0 p) (D1 p) := by rw [hD2, D2_at, hD0, hD1]
  have eG : G p = gStep (D2 p) := by rw [hG, h140, G_at, hD2]
  have eW : W p = gPlus (A p) (P p) (D0 p) (gCbrt (gQQ (D1 p) (D2 p))) := by rw [hW, W_at]
  have eS : S p = gMix (G p) (W p) (gMinus (A p) (P p) (D0 p) (gPhi (gT (D0 p) (D1 p)))) := by
    rw [hS, hN, hT, hM, S_at]
  have eR : R p = gR1 (A p) (B p) (P p) (Q p) (SQ p) (S p) := by rw [hR, R1_at, hS]
  have eSS : S p = gS (A p) (B p) (C p) (D p) (E p) := by
    unfold gS; rw [eS, eG, eW, eD2, eD0, eD1, eP]
  rw [rho_stage, eR, eSS, eSQ, eQ, eP, eA, eB, eC, eD, eE]
  rfl

/-- The stored block at a row is the row's result. -/
theorem result_at (p : S32x128.Idx) {Z Y X0 X1 X2 r0 r1 : V}
    (hZ : Z = k0_pay50 (F := Ideal) A B P Q SQ S R)
    (eZ : Z p = rhoOf u (row (a0, a1, a2, a3, a4, a5, a6, a7) p))
    (hY : Y = k0_pay51 (F := Ideal) u a0 a1) (hr0 : r0 = k0_pay24 (F := Ideal) u a0) (hr1 : r1 = k0_pay25 (F := Ideal) u a1)
    (hX0 : X0 = k0_pay53 (F := Ideal) a0 a5 r0 A B P Q SQ S R)
    (hX1 : X1 = k0_pay54 (F := Ideal) a1 r1 A B P Q SQ S R)
    (hX2 : X2 = k0_pay55 (F := Ideal) a6 A B P Q SQ S R) :
    k0_pay1 (F := Ideal) a0 a1 a2 a3 a4 a7 Z Y X0 X1 X2 p = result u (row (a0, a1, a2, a3, a4, a5, a6, a7) p) := by
  have e0 : X0 p = out0 u (row (a0, a1, a2, a3, a4, a5, a6, a7) p) := by
    unfold out0
    rw [← eZ, hZ, ← root_at, hX0, hr0]
    rfl
  have e1 : X1 p + X2 p = out1 u (row (a0, a1, a2, a3, a4, a5, a6, a7) p) := by
    unfold out1
    rw [← eZ, hZ, ← root_at, hX1, hX2, hr1]
    rfl
  have eY : Y p = reward u (a0 p) (a1 p) := by rw [hY, reward_at]
  unfold result outY outDisc
  rw [← e0, ← e1, ← eZ]
  show Scalar.select _ _ ((a3 p + Z p * Y p * K 0x3B83126F#32 * a7 p) + _) = _
  rw [eY]
  rfl

end Closing

end Cert.Exit.Ker
-- ==== Proof.KTrip.lean ====
/- The kernel's block at one row: fifty trips of the row's walk and the closing formula. -/
module
public import proofs.«01_k».proof.Proof.Gen.KernelIdeal.Frame
public import Idealize.ShloMosaic.Lib.Pipeline.ValueKit
public import proofs.«01_k».proof.Proof.KTail

@[expose] public section

set_option maxRecDepth 16384

noncomputable section

namespace Cert.Exit.Ker

open Idealize.ShloMosaic Idealize.ShloMosaic.TcCoe Cert.KernelIdeal Cert.KernelIdeal.Gen

/-- A row before trip `n`, the noise of each trip given. -/
def walk (u : EReal) (d0 d1 : Fin 50 → EReal) (k : Row) : ℕ → Row
  | 0 => k
  | n + 1 => next u (d0 (Fin.ofNat 50 n)) (d1 (Fin.ofNat 50 n)) (walk u d0 d1 k n)

/-- A row at the start: the point given, the walk on, nothing earned, no discount yet. -/
def start (x0 x1 : EReal) : Row where
  x0 := x0
  x1 := x1
  flag := K 0x3F800000#32
  y := K 0x00000000#32
  disc := K 0x3F800000#32
  f0 := K 0x00000000#32
  f1 := K 0x00000000#32
  de := K 0x3F800000#32

section Trip
variable (𝒱 : Variants) (c : Dev nD) (bd : Option 𝒱.V) (i : grid0.Coords) (arg1 : Memref sig .tc .smem S1 .f32)
  (harg1 : arg1.IsWhole) (arg2 : Memref sig .tc .vmem S2x32x128 .f32) (harg2 : arg2.IsWhole)
  (arg3 : Memref sig .tc .vmem S50x2x32x128 .f32) (harg3 : arg3.IsWhole) (arg4 : Memref sig .tc .vmem S32x128 .f32)
  (harg4 : arg4.IsWhole) (v0 : EReal) (x2 : FVec Ideal S50x2x32x128 .f32)

theorem trips_eq : k0_t1_loop.trips = 50 := by decide +kernel

/-- The noise a trip loads, at a row. -/
theorem load0 (k : Fin k0_t1_loop.trips) (p : Fin 32) (l : Fin 128) :
    View.readAt (Elt Ideal) arg3.view (Rect.unit (s := S50x2x32x128) (k0_off1 k) S1x1x32x128.size (k0_off1_inb k)).toLoadRect (harg3.unread x2)
      (ix4 0 0 p l) = x2 (ix4 (Fin.ofNat 50 k.val) 0 p l) := by
  rw [View.readAt_eq_ld, harg3.read_unread]
  refine congrArg x2 (funext fun a => Fin.ext ((Rect.idx_unit_val _ _ _ _ a).trans ?_))
  have hk : k.val < 50 := trips_eq ▸ k.isLt
  refine (congrArg (· + _) (congrFun (k0_off1_eq k) a)).trans ?_
  match a with
  | ⟨0, _⟩ => exact (Nat.mod_eq_of_lt hk).symm
  | ⟨1, _⟩ => rfl
  | ⟨2, _⟩ => exact Nat.zero_add _
  | ⟨3, _⟩ => exact Nat.zero_add _

theorem load1 (k : Fin k0_t1_loop.trips) (p : Fin 32) (l : Fin 128) :
    View.readAt (Elt Ideal) arg3.view (Rect.unit (s := S50x2x32x128) (k0_off2 k) S1x1x32x128.size (k0_off2_inb k)).toLoadRect (harg3.unread x2)
      (ix4 0 0 p l) = x2 (ix4 (Fin.ofNat 50 k.val) 1 p l) := by
  rw [View.readAt_eq_ld, harg3.read_unread]
  refine congrArg x2 (funext fun a => Fin.ext ((Rect.idx_unit_val _ _ _ _ a).trans ?_))
  have hk : k.val < 50 := trips_eq ▸ k.isLt
  refine (congrArg (· + _) (congrFun (k0_off2_eq k) a)).trans ?_
  match a with
  | ⟨0, _⟩ => exact (Nat.mod_eq_of_lt hk).symm
  | ⟨1, _⟩ => rfl
  | ⟨2, _⟩ => exact Nat.zero_add _
  | ⟨3, _⟩ => exact Nat.zero_add _

/-- One trip of the kernel's loop at a row. -/
theorem trip_row (k : Fin k0_t1_loop.trips) (a0 a1 a2 a3 a4 a5 a6 a7 : FVec Ideal S32x128 .f32) (p : Fin 32) (l : Fin 128) :
    row (tripR_k0_t1 (F := Ideal) 𝒱 c bd i arg1 harg1 arg2 harg2 arg3 harg3 arg4 harg4 v0 (harg3.unread x2) k
        (a0, a1, a2, a3, a4, a5, a6, a7)) (ix2 p l)
      = next v0 (x2 (ix4 (Fin.ofNat 50 k.val) 0 p l)) (x2 (ix4 (Fin.ofNat 50 k.val) 1 p l))
          (row (a0, a1, a2, a3, a4, a5, a6, a7) (ix2 p l)) := by
  rw [← load0 arg3 harg3 x2, ← load1 arg3 harg3 x2]
  unfold tripR_k0_t1 trip_k0_t1 trip_k0_t1.sl.r trip_k0_t1.sl.r_1 trip_k0_t1.sl.r_2 trip_k0_t1.sl.r_3 trip_k0_t1.sl.r_4
    trip_k0_t1.sl.r_5 trip_k0_t1.sl.r_6
  exact next_at _ _ _ _ _ _ _ _ _ _ _ p l

/-- The loop's carried tuple before trip `n`, at a row. -/
theorem walk_row (init : FVec Ideal S32x128 .f32 × FVec Ideal S32x128 .f32 × FVec Ideal S32x128 .f32 ×
      FVec Ideal S32x128 .f32 × FVec Ideal S32x128 .f32 × FVec Ideal S32x128 .f32 × FVec Ideal S32x128 .f32 ×
      FVec Ideal S32x128 .f32) (p : Fin 32) (l : Fin 128) :
    ∀ n, n ≤ k0_t1_loop.trips →
      row (st_k0_t1 (F := Ideal) 𝒱 c bd i arg1 harg1 arg2 harg2 arg3 harg3 arg4 harg4 v0 (harg3.unread x2) init n) (ix2 p l)
        = walk v0 (fun k => x2 (ix4 k 0 p l)) (fun k => x2 (ix4 k 1 p l)) (row init (ix2 p l)) n
  | 0, _ => rfl
  | n + 1, h => by
    rw [show n + 1 = (⟨n, h⟩ : Fin k0_t1_loop.trips).val + 1 from rfl, st_k0_t1_succ]
    refine (trip_row 𝒱 c bd i arg1 harg1 arg2 harg2 arg3 harg3 arg4 harg4 v0 x2 ⟨n, h⟩ _ _ _ _ _ _ _ _ p l).trans ?_
    exact congrArg (next v0 _ _) (walk_row init p l n (Nat.le_of_succ_le h))

end Trip

/-- The loads of the point's planes, at a row. -/
theorem point0_at (w : FVec Ideal S1x32x128 .f32) (p : Fin 32) (l : Fin 128) :
    k0_pay12 (F := Ideal) w (ix2 p l) = w (ix3 0 p l) := by
  have h : shapeCast S32x128 w shapeCasts_S1x32x128_S32x128 (ix2 p l) = w (ix3 0 p l) := by pointwise
  rw [← h]; rfl
theorem point1_at (w : FVec Ideal S1x32x128 .f32) (p : Fin 32) (l : Fin 128) :
    k0_pay13 (F := Ideal) w (ix2 p l) = w (ix3 0 p l) := by
  have h : shapeCast S32x128 w shapeCasts_S1x32x128_S32x128 (ix2 p l) = w (ix3 0 p l) := by pointwise
  rw [← h]; rfl

theorem hz : (![0, 0] : Fin 2 → Nat) = fun _ => 0 := funext fun a => by fin_cases a <;> rfl

/-- What a grid point leaves in the output's block, at a row: the row's result after fifty trips. -/
theorem block_row (c : Dev nD) (i : grid0.Coords) (arg1 : Memref sig .tc .smem S1 .f32)
    (harg1 : arg1.IsWhole) (arg2 : Memref sig .tc .vmem S2x32x128 .f32) (harg2 : arg2.IsWhole)
    (arg3 : Memref sig .tc .vmem S50x2x32x128 .f32) (harg3 : arg3.IsWhole) (arg4 : Memref sig .tc .vmem S32x128 .f32)
    (harg4 : arg4.IsWhole) (x0 : Vec Ideal S1 .f32) (x1 : Vec Ideal S2x32x128 .f32) (x2 : Vec Ideal S50x2x32x128 .f32)
    (p : Fin 32) (l : Fin 128) :
    out0_A_3 (F := Ideal) c i arg1 harg1 arg2 harg2 arg3 harg3 arg4 harg4 x0 x1 x2 (ix2 p l)
      = result (x0 (ix1 0)) (walk (x0 (ix1 0)) (fun k => x2 (ix4 k 0 p l)) (fun k => x2 (ix4 k 1 p l))
          (start (x1 (ix3 0 p l)) (x1 (ix3 1 p l))) 50) := by
  have hu : kernelRun0_A.sl.r (F := Ideal) c arg1 harg1 x0 = x0 (ix1 0) := by
    unfold kernelRun0_A.sl.r
    rw [View.readAt_eq_ld, harg1.read_unread]
    exact congrArg x0 (funext fun a => by match a with | ⟨0, _⟩ => rfl)
  unfold out0_A_3
  rw [View.read_writes_junk_eq_canon]
  unfold kernelRun0_A
  dsimp only
  rw [View.canon_unit_zero hz]
  refine (result_at (ix2 p l) rfl (rho_at (ix2 p l) rfl rfl rfl rfl rfl rfl rfl rfl rfl rfl rfl rfl rfl rfl rfl rfl rfl rfl
    rfl rfl rfl rfl rfl) rfl rfl rfl rfl rfl rfl).trans ?_
  rw [hu]
  have hw := walk_row Variants.none c none i arg1 harg1 arg2 harg2 arg3 harg3 arg4 harg4
    (kernelRun0_A.sl.r (F := Ideal) c arg1 harg1 x0) x2
      (k0_pay12 (View.readAt (Elt Ideal) arg2.view
          (Rect.unit (s := S2x32x128) ![0, 0, 0] S1x32x128.size inb_S2x32x128_S1x32x128_0_0_0).toLoadRect (harg2.unread x1)),
        k0_pay13 (View.readAt (Elt Ideal) arg2.view
          (Rect.unit (s := S2x32x128) ![1, 0, 0] S1x32x128.size inb_S2x32x128_S1x32x128_1_0_0).toLoadRect (harg2.unread x1)),
        k0_pay15, k0_pay14, k0_pay15, k0_pay14, k0_pay14, k0_pay15) p l k0_t1_loop.trips le_rfl
  unfold kernelRun0_A.sl.r_1 kernelRun0_A.sl.r_2 kernelRun0_A.sl.r_3 kernelRun0_A.sl.r_4 kernelRun0_A.sl.r_5
    kernelRun0_A.sl.r_8
  change _ = walk _ _ _ _ k0_t1_loop.trips at hw
  rw [hu, trips_eq] at hw
  rw [hu]
  refine (congrArg (result (x0 (ix1 0))) hw).trans ?_
  refine congrArg (fun k => result (x0 (ix1 0)) (walk (x0 (ix1 0)) _ _ k 50)) ?_
  unfold row start
  dsimp only
  rw [point0_at, point1_at, View.readAt_eq_ld, View.readAt_eq_ld, harg2.read_unread]
  refine Row.ext (congrArg x1 (funext fun a => Fin.ext ((Rect.idx_unit_val _ _ _ _ a).trans ?_)))
    (congrArg x1 (funext fun a => Fin.ext ((Rect.idx_unit_val _ _ _ _ a).trans ?_))) rfl rfl rfl rfl rfl rfl
  · match a with
    | ⟨0, _⟩ => rfl
    | ⟨1, _⟩ => exact Nat.zero_add _
    | ⟨2, _⟩ => exact Nat.zero_add _
  · match a with
    | ⟨0, _⟩ => rfl
    | ⟨1, _⟩ => exact Nat.zero_add _
    | ⟨2, _⟩ => exact Nat.zero_add _

end Cert.Exit.Ker
-- ==== Proof.KArr.lean ====
/- The kernel's result array: each row's result after fifty trips, as a function of the argument arrays. -/
module
public import proofs.«01_k».proof.Proof.Gen.KernelIdeal.Run
public import proofs.«01_k».proof.Proof.KTrip

@[expose] public section

set_option maxRecDepth 16384

noncomputable section

namespace Cert.Exit.Ker

open Idealize.ShloMosaic Idealize.ShloMosaic.TcCoe Cert.KernelIdeal Cert.KernelIdeal.Gen
open Idealize.ShloMosaic.StableHlo

/-- The sample at line `i`, lane `l` of the laid-out arrays. -/
def sample (i l : Fin 128) : Fin 16384 := ⟨i.val * 128 + l.val, by omega⟩

/-- One sample's result as a function of the arguments. -/
def rowResult (x : FVec Ideal S16384x2 .f32) (dw : FVec Ideal S16384x2x50 .f32) (u : EReal) (r : Fin 16384) : EReal :=
  result u (walk u (fun k => dw (ix3 r 0 k)) (fun k => dw (ix3 r 1 k)) (start (x (ix2 r 0)) (x (ix2 r 1))) 50)

theorem xT_at (x : FVec Ideal S16384x2 .f32) (a : Fin 2) (i l : Fin 128) :
    shapeCast S2x128x128 (transpose S2x16384 [1, 0] x transposes_S16384x2_S2x16384_1_0) shapeCasts_S2x16384_S2x128x128
      (ix3 a i l) = x (ix2 (sample i l) a) := by
  pointwise
  rfl

theorem dwT_at (x : FVec Ideal S16384x2x50 .f32) (k : Fin 50) (a : Fin 2) (i l : Fin 128) :
    shapeCast S50x2x128x128 (transpose S50x2x16384 [2, 1, 0] x transposes_S16384x2x50_S50x2x16384_2_1_0)
      shapeCasts_S50x2x16384_S50x2x128x128 (ix4 k a i l) = x (ix3 (sample i l) a k) := by
  pointwise
  rfl

theorem out_at (y : FVec Ideal S128x128 .f32) (i l : Fin 128) :
    shapeCast S16384x1 y shapeCasts_S128x128_S16384x1 (ix2 (sample i l) 0) = y (ix2 i l) := by
  pointwise
  have h1 : (sample i l).val / 128 = i.val := by show (i.val * 128 + l.val) / 128 = _; omega
  have h2 : (sample i l).val % 128 = l.val := by show (i.val * 128 + l.val) % 128 = _; omega
  exact congrArg y (congrArg₂ ix2 (Fin.ext h1) (Fin.ext h2))

variable (m : (ℓ : Loc nD τ sig) → Buf (Elt Ideal) ℓ)

theorem V_main_v1 (c : Dev nD) : V m c main_v1
    = shapeCast S2x128x128 (transpose S2x16384 [1, 0] (m ((c : Thread nD τ).loc main_arg0)) transposes_S16384x2_S2x16384_1_0)
        shapeCasts_S2x16384_S2x128x128 := by
  show StableHlo.after hostOps0 _ (Proc.devRef .tc main_v1) = _
  after_results
  rfl
theorem V_main_v3 (c : Dev nD) : V m c main_v3
    = shapeCast S50x2x128x128 (transpose S50x2x16384 [2, 1, 0] (m ((c : Thread nD τ).loc main_arg1))
        transposes_S16384x2x50_S50x2x16384_2_1_0) shapeCasts_S50x2x16384_S50x2x128x128 := by
  show StableHlo.after hostOps0 _ (Proc.devRef .tc main_v3) = _
  after_results
  rfl
theorem V_main_v4 (c : Dev nD) : V m c main_v4 = shapeCast S1 (m ((c : Thread nD τ).loc main_arg2)) shapeCasts_S_S1 := by
  show StableHlo.after hostOps0 _ (Proc.devRef .tc main_v4) = _
  after_results
  rfl

/-- Each window's block index at a grid point. -/
theorem idx0 : ∀ t : Fin cfg0.N, win0_0.index t (0 : Fin 1) = 0 := (by decide +kernel : ∀ t : Fin grid0.N, _)
theorem idx1 : ∀ t : Fin cfg0.N, win0_1.index t (0 : Fin 3) = 0 ∧ win0_1.index t (1 : Fin 3) = t.val
    ∧ win0_1.index t (2 : Fin 3) = 0 := (by decide +kernel : ∀ t : Fin grid0.N, _)
theorem idx2 : ∀ t : Fin cfg0.N, win0_2.index t (0 : Fin 4) = 0 ∧ win0_2.index t (1 : Fin 4) = 0
    ∧ win0_2.index t (2 : Fin 4) = t.val ∧ win0_2.index t (3 : Fin 4) = 0 := (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- The line of the arrays that line `p` of point `t`'s block is. -/
def line (t : Fin cfg0.N) (p : Fin 32) : Fin 128 := ⟨t.val * 32 + p.val, by
  have h : t.val < 4 := N_0 ▸ t.isLt
  omega⟩

theorem emb0 (t : Fin cfg0.N) (j : S1.Idx) : ((cfg0.win 0).blk t).view.emb j = ix1 0 := by
  have e0 := idx0 t
  funext a; apply Fin.ext
  match a with
  | ⟨0, _⟩ => show win0_0.index t (0 : Fin 1) * 1 + 1 * (j 0).val = 0; have := (j 0).isLt; have : (j 0).val < 1 := this; omega

theorem emb1 (t : Fin cfg0.N) (a : Fin 2) (p : Fin 32) (l : Fin 128) :
    ((cfg0.win 1).blk t).view.emb (ix3 a p l : S2x32x128.Idx) = (ix3 a (line t p) l : S2x128x128.Idx) := by
  obtain ⟨e0, e1, e2⟩ := idx1 t
  funext b; apply Fin.ext
  match b with
  | ⟨0, _⟩ => show win0_1.index t (0 : Fin 3) * 2 + 1 * a.val = a.val; omega
  | ⟨1, _⟩ => show win0_1.index t (1 : Fin 3) * 32 + 1 * p.val = t.val * 32 + p.val; omega
  | ⟨2, _⟩ => show win0_1.index t (2 : Fin 3) * 128 + 1 * l.val = l.val; omega

theorem emb2 (t : Fin cfg0.N) (k : Fin 50) (a : Fin 2) (p : Fin 32) (l : Fin 128) :
    ((cfg0.win 2).blk t).view.emb (ix4 k a p l : S50x2x32x128.Idx) = (ix4 k a (line t p) l : S50x2x128x128.Idx) := by
  obtain ⟨e0, e1, e2, e3⟩ := idx2 t
  funext b; apply Fin.ext
  match b with
  | ⟨0, _⟩ => show win0_2.index t (0 : Fin 4) * 50 + 1 * k.val = k.val; omega
  | ⟨1, _⟩ => show win0_2.index t (1 : Fin 4) * 2 + 1 * a.val = a.val; omega
  | ⟨2, _⟩ => show win0_2.index t (2 : Fin 4) * 32 + 1 * p.val = t.val * 32 + p.val; omega
  | ⟨3, _⟩ => show win0_2.index t (3 : Fin 4) * 128 + 1 * l.val = l.val; omega

theorem emb3 (t : Fin cfg0.N) (p : Fin 32) (l : Fin 128) :
    ((cfg0.win 3).blk t).view.emb (ix2 p l : S32x128.Idx) = (ix2 (line t p) l : S128x128.Idx) := by
  obtain ⟨e0, e1⟩ := idx3 t
  funext b; apply Fin.ext
  match b with
  | ⟨0, _⟩ => show win0_3.index t (0 : Fin 2) * 32 + 1 * p.val = t.val * 32 + p.val; omega
  | ⟨1, _⟩ => show win0_3.index t (1 : Fin 2) * 128 + 1 * l.val = l.val; omega

/-- The arguments' word, point and noise as the blocks of a grid point hold them. -/
theorem blk0_at (c : Dev nD) (t : Fin cfg0.N) : iblk m c 0 t (ix1 0 : S1.Idx) = m ((c : Thread nD τ).loc main_arg2) (fun a => a.elim0 : S_.Idx) := by
  show V m c main_v4 (((cfg0.win 0).blk t).view.emb (ix1 0 : S1.Idx)) = _
  rw [emb0, V_main_v4]
  exact congrArg (m ((c : Thread nD τ).loc main_arg2)) (funext fun a => a.elim0)
theorem blk1_at (c : Dev nD) (t : Fin cfg0.N) (a : Fin 2) (p : Fin 32) (l : Fin 128) :
    iblk m c 1 t (ix3 a p l : S2x32x128.Idx) = m ((c : Thread nD τ).loc main_arg0) (ix2 (sample (line t p) l) a) := by
  show V m c main_v1 (((cfg0.win 1).blk t).view.emb (ix3 a p l : S2x32x128.Idx)) = _
  rw [emb1, V_main_v1]
  exact xT_at _ a (line t p) l
theorem blk2_at (c : Dev nD) (t : Fin cfg0.N) (k : Fin 50) (a : Fin 2) (p : Fin 32) (l : Fin 128) :
    iblk m c 2 t (ix4 k a p l : S50x2x32x128.Idx) = m ((c : Thread nD τ).loc main_arg1) (ix3 (sample (line t p) l) a k) := by
  show V m c main_v3 (((cfg0.win 2).blk t).view.emb (ix4 k a p l : S50x2x32x128.Idx)) = _
  rw [emb2, V_main_v3]
  exact dwT_at _ k a (line t p) l

/-- The kernel's result array, line by line. -/
def G (c : Dev nD) : Vec Ideal S128x128 .f32 := fun q =>
  rowResult (m ((c : Thread nD τ).loc main_arg0)) (m ((c : Thread nD τ).loc main_arg1))
    (m ((c : Thread nD τ).loc main_arg2) (fun a => a.elim0 : S_.Idx)) (sample (q 0) (q 1))

/-- What a grid point writes back is its block of the result array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext (j : S32x128.Idx)
  obtain ⟨p, l, rfl⟩ : ∃ (p : Fin 32) (l : Fin 128), j = (ix2 p l : S32x128.Idx) :=
    ⟨j 0, j 1, funext fun a => by match a with | ⟨0, _⟩ => rfl | ⟨1, _⟩ => rfl⟩
  show outsAt0 m c t (ix2 p l) = G m c (((cfg0.win 3).blk t).view.emb (ix2 p l : S32x128.Idx))
  refine Eq.trans ?_ (congrArg (G m c) (emb3 t p l)).symm
  unfold outsAt0
  rw [block_row, blk0_at, blk1_at, blk1_at]
  simp only [blk2_at]
  rfl

/-- The four blocks tile the result array. -/
theorem cover (i : S128x128.Idx) :
    ∃ t : Fin cfg0.N, (cfg0.win 3).flush t = true ∧ i ∈ ((cfg0.win 3).blk t).view.set := by
  have hi : (i 0).val < 128 := (i 0).isLt
  have ht : (i 0).val / 32 < cfg0.N := by rw [show cfg0.N = 4 from N_0]; omega
  refine ⟨⟨(i 0).val / 32, ht⟩, flush0_3 _, ?_⟩
  have hp : (i 0).val % 32 < 32 := Nat.mod_lt _ (by omega)
  obtain ⟨l, hl⟩ : ∃ l : Fin 128, l = i 1 := ⟨i 1, rfl⟩
  have h := ((cfg0.win 3).blk (⟨(i 0).val / 32, ht⟩ : Fin cfg0.N)).view.emb_mem_set
    (ix2 ⟨(i 0).val % 32, hp⟩ l : S32x128.Idx)
  have e : (ix2 (line ⟨(i 0).val / 32, ht⟩ ⟨(i 0).val % 32, hp⟩) l : S128x128.Idx) = i := by
    funext a
    apply Fin.ext
    match a with
    | ⟨0, _⟩ => show (i 0).val / 32 * 32 + (i 0).val % 32 = (i 0).val; omega
    | ⟨1, _⟩ => exact congrArg Fin.val hl
  rwa [((emb3 ⟨(i 0).val / 32, ht⟩ ⟨(i 0).val % 32, hp⟩ l).trans e : ((cfg0.win 3).blk _).view.emb _ = _)] at h

theorem final_eq (c : Dev nD) : Cert.KernelIdeal.Value.reg_main_v5 m c = G m c :=
  (dats m 0 c).arrAt_eq_of_cover 3 (G m c) (fun t _ => flushed_eq m c t) cover

/-- The returned column at a sample. -/
theorem column_at (c : Dev nD) (r : Fin 16384) :
    shapeCast S16384x1 (Cert.KernelIdeal.Value.reg_main_v5 m c) shapeCasts_S128x128_S16384x1 (ix2 r 0)
      = rowResult (m ((c : Thread nD τ).loc main_arg0)) (m ((c : Thread nD τ).loc main_arg1))
          (m ((c : Thread nD τ).loc main_arg2) (fun a => a.elim0 : S_.Idx)) r := by
  have e : r = sample ⟨r.val / 128, by omega⟩ ⟨r.val % 128, by omega⟩ :=
    Fin.ext (show r.val = r.val / 128 * 128 + r.val % 128 by omega)
  rw [final_eq, e, out_at]
  rfl

end Cert.Exit.Ker
-- ==== Proof.RefRho.lean ====
/- The reference's exit coefficient of one row, read off one trip's values: it is `rho` of the row. -/
module
public import proofs.«01_k».proof.Proof.Gen.ReferenceIdeal.Step
public import proofs.«01_k».proof.Proof.Rho

@[expose] public section

set_option maxRecDepth 16384

noncomputable section

namespace Cert.Exit.Ref

open Idealize.ShloMosaic Cert.ReferenceIdeal Cert.ReferenceIdeal.Step

variable (j : ℕ) (s : State Ideal) (r : Fin 16384)

/-- The host's sum over the two coordinates of a row, from zero. -/
theorem sum2 (h : S16384x2.ReducesTo [1] S16384) (hu : 0 < S_.numel) (x : FVec Ideal S16384x2 .f32) :
    Host.reduceAdd x (constant S_ .f32 0x00000000#32) h hu (ix1 r) = x (ix2 r 0) + x (ix2 r 1) := by
  pointwise
  rw [Fin.sum_univ_two]

/-! The coefficients. -/

theorem a_at : b46 j s (ix1 r) = cA (b6 j s (ix2 r 0)) (b6 j s (ix2 r 1)) := by
  unfold b46; rw [b45, sum2]; rfl

theorem b_at : b52 j s (ix1 r)
    = cB (b6 j s (ix2 r 0)) (b6 j s (ix2 r 1)) (b19 j s (ix2 r 0)) (b19 j s (ix2 r 1)) := by
  show K 0x40000000#32 * b49 j s (ix1 r) = _
  unfold b49; rw [b48, sum2]; rfl

theorem c_at : b60 j s (ix1 r)
    = cC (s.main_v2_4 (ix2 r 0)) (s.main_v2_4 (ix2 r 1)) (b6 j s (ix2 r 0)) (b6 j s (ix2 r 1))
        (b19 j s (ix2 r 0)) (b19 j s (ix2 r 1)) := by
  unfold b60; rw [b59, sum2]; rfl

theorem d_at : b66 j s (ix1 r)
    = cD (s.main_v2_4 (ix2 r 0)) (s.main_v2_4 (ix2 r 1)) (b19 j s (ix2 r 0)) (b19 j s (ix2 r 1)) := by
  show K 0x40000000#32 * b63 j s (ix1 r) = _
  unfold b63; rw [b62, sum2]; rfl

theorem e_at : b72 j s (ix1 r) = cE (s.main_v2_4 (ix2 r 0)) (s.main_v2_4 (ix2 r 1)) := by
  show b69 j s (ix1 r) - K 0x3F800000#32 = _
  unfold b69; rw [b68, sum2]; rfl

/-! The invariants, from the coefficients. -/

theorem p_at : b86 j s (ix1 r) = gP (b46 j s (ix1 r)) (b52 j s (ix1 r)) (b60 j s (ix1 r)) := by
  unfold b86 b85 b84 b83 b82 b81 b80 b79 b78 b77 b76 b75 b74 b73
  generalize b46 j s = B46
  generalize b52 j s = B52
  generalize b60 j s = B60
  rfl

theorem q_at : b106 j s (ix1 r)
    = gQ (b46 j s (ix1 r)) (b52 j s (ix1 r)) (b60 j s (ix1 r)) (b66 j s (ix1 r)) := by
  unfold gQ
  rw [mul_comm (b52 j s (ix1 r)) (b52 j s (ix1 r) * b52 j s (ix1 r)),
    mul_comm (b46 j s (ix1 r)) (b46 j s (ix1 r) * b46 j s (ix1 r))]
  unfold b106 b105 b104 b103 b102 b101 b100 b99 b98 b97 b96 b95 b94 b93 b92 b91 b90 b89 b88 b87
  generalize b46 j s = B46
  generalize b52 j s = B52
  generalize b60 j s = B60
  generalize b66 j s = B66
  rfl

theorem sq_at : b107 j s (ix1 r) = Ideal.sign (b106 j s (ix1 r)) := by
  unfold b107
  generalize b106 j s = B106
  rfl

theorem D0_at : b118 j s (ix1 r)
    = gD0 (b46 j s (ix1 r)) (b52 j s (ix1 r)) (b60 j s (ix1 r)) (b66 j s (ix1 r)) (b72 j s (ix1 r)) := by
  unfold b118 b117 b116 b115 b114 b113 b112 b111 b110 b109 b108
  generalize b46 j s = B46
  generalize b52 j s = B52
  generalize b60 j s = B60
  generalize b66 j s = B66
  generalize b72 j s = B72
  rfl

theorem D1_at : b147 j s (ix1 r)
    = gD1 (b46 j s (ix1 r)) (b52 j s (ix1 r)) (b60 j s (ix1 r)) (b66 j s (ix1 r)) (b72 j s (ix1 r)) := by
  unfold gD1
  rw [mul_comm (b60 j s (ix1 r)) (b60 j s (ix1 r) * b60 j s (ix1 r))]
  unfold b147 b146 b145 b144 b143 b142 b141 b140 b139 b138 b137 b136 b135 b134 b133 b132 b131 b130 b129 b128 b127
    b126 b125 b124 b123 b122 b121 b120 b119
  generalize b46 j s = B46
  generalize b52 j s = B52
  generalize b60 j s = B60
  generalize b66 j s = B66
  generalize b72 j s = B72
  rfl

theorem D2_at : b154 j s (ix1 r) = gD2 (b118 j s (ix1 r)) (b147 j s (ix1 r)) := by
  unfold gD2
  rw [mul_comm (b118 j s (ix1 r)) (b118 j s (ix1 r) * b118 j s (ix1 r))]
  unfold b154 b153 b152 b151 b150 b149 b148
  generalize b118 j s = B118
  generalize b147 j s = B147
  rfl

theorem sig_at : b162 j s (ix1 r) = gStep (b154 j s (ix1 r)) := by
  unfold b162 b161 b160 b159 b158 b157 b156 b155
  generalize b154 j s = B154
  rfl

/-! The two branches: here the powers and the arc cosine become the kernel's calls. -/

theorem QQ_at : b170 j s (ix1 r) = gQQ (b147 j s (ix1 r)) (b154 j s (ix1 r)) := by
  unfold gQQ
  rw [← pow_half (mag_nonneg _)]
  unfold b170 b169 b168 b167 b166 b165 b164 b163
  generalize b147 j s = B147
  generalize b154 j s = B154
  rfl

theorem cbrt_at : b176 j s (ix1 r) = gCbrt (b170 j s (ix1 r)) := by
  unfold gCbrt
  rw [← pow_third (mag_nonneg _)]
  unfold b176 b175 b174 b173 b172 b171
  generalize b170 j s = B170
  rfl

theorem plus_at : b196 j s (ix1 r)
    = gPlus (b46 j s (ix1 r)) (b86 j s (ix1 r)) (b118 j s (ix1 r)) (b176 j s (ix1 r)) := by
  unfold gPlus
  rw [← pow_half (mag_nonneg _)]
  unfold b196 b195 b194 b193 b192 b191 b190 b189 b188 b187 b186 b185 b184 b183 b182 b181 b180 b179 b178 b177
  generalize b46 j s = B46
  generalize b86 j s = B86
  generalize b118 j s = B118
  generalize b176 j s = B176
  rfl

theorem t_at : b212 j s (ix1 r) = gT (b118 j s (ix1 r)) (b147 j s (ix1 r)) := by
  unfold gT
  rw [← pow_threeHalf (mag_nonneg _)]
  unfold b212 b211 b210 b209 b208 b207 b206 b205 b204 b203 b202 b201 b200 b199 b198 b197
  generalize b118 j s = B118
  generalize b147 j s = B147
  rfl

theorem phi_at : b213 j s (ix1 r) = gPhi (b212 j s (ix1 r)) := by
  have h := t_at j s r
  unfold b213
  generalize b212 j s = B212 at h ⊢
  show Ideal.acos (B212 (ix1 r)) = gPhi (B212 (ix1 r))
  rw [h]
  exact acos_clip _

theorem minus_at : b243 j s (ix1 r)
    = gMinus (b46 j s (ix1 r)) (b86 j s (ix1 r)) (b118 j s (ix1 r)) (b213 j s (ix1 r)) := by
  unfold gMinus
  rw [← pow_half (mag_nonneg _), ← pow_half (mag_nonneg _)]
  unfold b243 b242 b241 b240 b239 b238 b237 b236 b235 b234 b233 b232 b231 b230 b229 b228 b227 b226 b225 b224 b223
    b222 b221 b220 b219 b218 b217 b216 b215 b214
  generalize b46 j s = B46
  generalize b86 j s = B86
  generalize b118 j s = B118
  generalize b213 j s = B213
  rfl

theorem mix_at : b249 j s (ix1 r) = gMix (b162 j s (ix1 r)) (b196 j s (ix1 r)) (b243 j s (ix1 r)) := by
  unfold b249 b248 b247 b246 b245 b244
  generalize b162 j s = B162
  generalize b196 j s = B196
  generalize b243 j s = B243
  rfl

/-- The resolvent's root of the row. -/
theorem S_at : b249 j s (ix1 r)
    = gS (b46 j s (ix1 r)) (b52 j s (ix1 r)) (b60 j s (ix1 r)) (b66 j s (ix1 r)) (b72 j s (ix1 r)) := by
  unfold gS
  rw [← p_at, ← D0_at, ← D1_at, ← D2_at, ← sig_at, ← QQ_at, ← cbrt_at, ← plus_at, ← t_at, ← phi_at, ← minus_at]
  exact mix_at j s r

/-! The roots. -/

theorem r1_at : b274 j s (ix1 r)
    = gR1 (b46 j s (ix1 r)) (b52 j s (ix1 r)) (b86 j s (ix1 r)) (b106 j s (ix1 r)) (b107 j s (ix1 r)) (b249 j s (ix1 r)) := by
  unfold gR1
  rw [← pow_half (mag_nonneg _)]
  unfold b274 b273 b272 b271 b270 b269 b268 b267 b266 b265 b264 b263 b262 b261 b260 b259 b258 b257 b256 b255 b254
    b253 b252 b251 b250
  generalize b46 j s = B46
  generalize b52 j s = B52
  generalize b86 j s = B86
  generalize b106 j s = B106
  generalize b107 j s = B107
  generalize b249 j s = B249
  rfl

theorem r2_at : b299 j s (ix1 r)
    = gR2 (b46 j s (ix1 r)) (b52 j s (ix1 r)) (b86 j s (ix1 r)) (b106 j s (ix1 r)) (b107 j s (ix1 r)) (b249 j s (ix1 r)) := by
  unfold gR2
  rw [← pow_half (mag_nonneg _)]
  unfold b299 b298 b297 b296 b295 b294 b293 b292 b291 b290 b289 b288 b287 b286 b285 b284 b283 b282 b281 b280 b279
    b278 b277 b276 b275
  generalize b46 j s = B46
  generalize b52 j s = B52
  generalize b86 j s = B86
  generalize b106 j s = B106
  generalize b107 j s = B107
  generalize b249 j s = B249
  rfl

theorem pick_at : b307 j s (ix1 r) = gPick (b274 j s (ix1 r)) (b299 j s (ix1 r)) := by
  unfold b307 b306 b305 b304 b303 b302 b301 b300
  generalize b274 j s = B274
  generalize b299 j s = B299
  rfl

/-- The exit coefficient of the row is `rho` of its point, drift and noise. -/
theorem rho_at : b308 j s (ix1 r)
    = rho (s.main_v2_4 (ix2 r 0)) (s.main_v2_4 (ix2 r 1)) (b6 j s (ix2 r 0)) (b6 j s (ix2 r 1))
        (b19 j s (ix2 r 0)) (b19 j s (ix2 r 1)) := by
  unfold rho gRho
  rw [← a_at, ← b_at, ← c_at, ← d_at, ← e_at, ← p_at, ← q_at, ← sq_at, ← S_at, ← r1_at, ← r2_at, ← pick_at]
  unfold b308
  generalize b307 j s = B307
  rfl

end Cert.Exit.Ref
-- ==== Proof.RefRow.lean ====
/- The reference at one row: one step of its walk, as a function of the row's carried numbers. -/
module
public import proofs.«01_k».proof.Proof.RefRho

@[expose] public section

set_option maxRecDepth 16384

noncomputable section

namespace Cert.Exit.Ref

open Idealize.ShloMosaic Cert.ReferenceIdeal Cert.ReferenceIdeal.Gen Cert.ReferenceIdeal.Step

/-- What the reference carries of one row. -/
@[ext] structure Row where
  x0 : EReal
  x1 : EReal
  flag : EReal
  y : EReal
  disc : EReal

/-- Whether a step from the row leaves the ball, as zero or one. -/
def exits (u d0 d1 : EReal) (k : Row) : EReal :=
  gStep (outside (k.x0 + drift u k.x0 + noise d0) (k.x1 + drift u k.x1 + noise d1))

/-- The fraction of the step the row takes. -/
def coef (u d0 d1 : EReal) (k : Row) : EReal :=
  Scalar.select (Ideal.cmp .oeq (k.flag * exits u d0 d1 k) (K 0x3F800000#32))
    (rho k.x0 k.x1 (drift u k.x0) (drift u k.x1) (noise d0) (noise d1))
    ((K 0x3F800000#32 - exits u d0 d1 k) * k.flag)

/-- One step of a row that takes the fraction `q` of it. -/
def move (u d0 d1 : EReal) (k : Row) (q e : EReal) : Row where
  x0 := (k.x0 + drift u k.x0 * q) + noise d0 * gRoot q
  x1 := (k.x1 + drift u k.x1 * q) + noise d1 * gRoot q
  flag := k.flag * (K 0x3F800000#32 - e)
  y := k.y + q * reward u k.x0 k.x1 * K 0x3B83126F#32 * k.disc
  disc := k.disc * Ideal.exp (K 0xBB83126F#32 * q)

def next (u d0 d1 : EReal) (k : Row) : Row := move u d0 d1 k (coef u d0 d1 k) (exits u d0 d1 k)

/-- A state of the reference read at a row. -/
def row (s : State Ideal) (r : Fin 16384) : Row where
  x0 := s.main_v2_4 (ix2 r 0)
  x1 := s.main_v2_4 (ix2 r 1)
  flag := s.main_v2_5 (ix1 r)
  y := s.main_v2_6 (ix1 r)
  disc := s.main_v2_7 (ix1 r)

variable (j : ℕ) (s : State Ideal) (r : Fin 16384)

/-- The control and a noise entry of a state. -/
def ctl : EReal := s.main_v2_0 (fun a => a.elim0 : S_.Idx)
def inc (a : Fin 2) (n : Fin 50) : EReal := s.main_v2_1 (ix3 r a n)

theorem drift_at (a : Fin 2) : b6 j s (ix2 r a) = drift (ctl s) (s.main_v2_4 (ix2 r a)) := by
  unfold b6 b5 b4 b3 b2
  refine congrArg (fun w => w * s.main_v2_4 (ix2 r a) * K 0x3B83126F#32) ?_
  exact congrArg s.main_v2_0 (funext fun a => a.elim0)

/-- The start of step `k`'s slice as the body computes it and the slice clamps it. -/
def start (k : ℕ) : ℕ :=
  (min (max (Scalar.select (IntOp.cmpi .slt (BitVec.ofNat 32 k) 0#32) (IntOp.addi (BitVec.ofNat 32 k) 50#32)
    (BitVec.ofNat 32 k)).toInt 0) ((50 - 1 : Nat) : Int)).toNat

/-- It is the step's number. -/
theorem start_eq : ∀ k : Fin 50, start k.val = k.val := by decide

/-- The step's slice of the noise starts at the step's number. -/
theorem slice_at (hj : j < 50) : b15 j s = fun p => s.main_v2_1 (ix3 (p 0) (p 1) (Fin.ofNat 50 j)) := by
  funext p
  unfold b15 Host.dynamicSlice
  have e : start j = j := start_eq ⟨j, hj⟩
  refine congrArg s.main_v2_1 (funext fun a => Fin.ext ?_)
  match a with
  | ⟨0, _⟩ => exact Nat.zero_add _
  | ⟨1, _⟩ => exact Nat.zero_add _
  | ⟨2, _⟩ =>
    have h0 : (p 2).val < 1 := (p 2).isLt
    show start j + (p 2).val = j % 50
    rw [e, Nat.mod_eq_of_lt hj]; omega

theorem noise_at (hj : j < 50) (a : Fin 2) : b19 j s (ix2 r a) = noise (inc s r a (Fin.ofNat 50 j)) := by
  have h : b16 j s (ix2 r a) = inc s r a (Fin.ofNat 50 j) := by
    unfold b16
    rw [slice_at j s hj]
    pointwise
    rfl
  unfold b19 b18 b17
  exact congrArg (fun w => K 0x3FB504F3#32 * w) h

theorem outside_at : b27 j s (ix1 r)
    = outside (s.main_v2_4 (ix2 r 0) + b6 j s (ix2 r 0) + b19 j s (ix2 r 0))
        (s.main_v2_4 (ix2 r 1) + b6 j s (ix2 r 1) + b19 j s (ix2 r 1)) := by
  show b24 j s (ix1 r) - K 0x3F800000#32 = _
  unfold b24; rw [b23, sum2]; rfl

theorem exits_at : b35 j s (ix1 r) = gStep (b27 j s (ix1 r)) := by
  unfold b35 b34 b33 b32 b31 b30 b29 b28
  generalize b27 j s = B27
  rfl

theorem coef_at : b309 j s (ix1 r)
    = Scalar.select (Ideal.cmp .oeq (s.main_v2_5 (ix1 r) * b35 j s (ix1 r)) (K 0x3F800000#32)) (b308 j s (ix1 r))
        ((K 0x3F800000#32 - b35 j s (ix1 r)) * s.main_v2_5 (ix1 r)) := by
  unfold b309 b43 b42 b41 b40 b39 b38 b37 b36
  generalize b308 j s = B308
  generalize b35 j s = B35
  rfl

theorem root_at : b345 j s (ix1 r) = gRoot (b309 j s (ix1 r)) := by
  unfold b345 b344 b343 b342 b341 b340 b339 b338 b337 b336
  generalize b309 j s = Z
  show Ideal.sqrt (Scalar.select (Ideal.cmp .ogt (Z (ix1 r)) (K 0x00000000#32)) (Z (ix1 r)) (K 0x3F800000#32))
    * (((Ideal.cmp .ogt (Z (ix1 r)) (K 0x00000000#32)).toNat : ℝ) : EReal) = _
  unfold gRoot
  rw [K_zero, K_one]
  by_cases h : 0 < Z (ix1 r)
  · have hc : Ideal.cmp .ogt (Z (ix1 r)) 0 = 1#1 := by simp [Ideal.cmp, h]
    rw [hc, if_pos h, if_pos h]
    simp [Scalar.select]
  · have hc : Ideal.cmp .ogt (Z (ix1 r)) 0 = 0#1 := by simp [Ideal.cmp, h]
    rw [hc, if_neg h, if_neg h]
    simp [Scalar.select]

/-- A row's number spread over its two coordinates. -/
theorem spread_at (x : FVec Ideal S16384 .f32) (a : Fin 2) :
    broadcastInDim S16384x2 ![0, 1] bcast_S16384x1_S16384x2_0_1 (broadcastInDim S16384x1 ![0] bcast_S16384_S16384x1_0 x)
      (ix2 r a) = x (ix1 r) := by
  pointwise

theorem point_at (a : Fin 2) : b349 j s (ix2 r a)
    = (s.main_v2_4 (ix2 r a) + b6 j s (ix2 r a) * b309 j s (ix1 r)) + b19 j s (ix2 r a) * b345 j s (ix1 r) := by
  unfold b349 b348 b347 b346 b335 b334 b333 b332
  rw [← spread_at r (b309 j s) a, ← spread_at r (b345 j s) a]
  generalize b309 j s = B309
  generalize b345 j s = B345
  generalize b19 j s = B19
  generalize b6 j s = B6
  rfl

theorem reward_at : b320 j s (ix1 r) = reward (ctl s) (s.main_v2_4 (ix2 r 0)) (s.main_v2_4 (ix2 r 1)) := by
  have h : b315 j s (ix1 r) = s.main_v2_4 (ix2 r 0) * s.main_v2_4 (ix2 r 0) + s.main_v2_4 (ix2 r 1) * s.main_v2_4 (ix2 r 1) := by
    unfold b315; rw [b314, sum2]; rfl
  have hu : b316 j s (ix1 r) = ctl s * ctl s + K 0x40000000#32 := by
    unfold b316 b312 b311 b310
    exact congrArg (fun w => w * w + K 0x40000000#32) (congrArg s.main_v2_0 (funext fun a => a.elim0))
  unfold reward
  rw [← h, ← hu]
  unfold b320 b319 b318 b317
  generalize b315 j s = B315
  generalize b316 j s = B316
  rfl

theorem earned_at : b326 j s (ix1 r)
    = s.main_v2_6 (ix1 r) + b309 j s (ix1 r) * b320 j s (ix1 r) * K 0x3B83126F#32 * s.main_v2_7 (ix1 r) := by
  unfold b326 b325 b324 b323 b322 b321
  generalize b309 j s = B309
  generalize b320 j s = B320
  rfl

theorem disc_at : b331 j s (ix1 r) = s.main_v2_7 (ix1 r) * Ideal.exp (K 0xBB83126F#32 * b309 j s (ix1 r)) := by
  unfold b331 b330 b329 b328 b327
  generalize b309 j s = B309
  rfl

theorem flag_at : b353 j s (ix1 r) = s.main_v2_5 (ix1 r) * (K 0x3F800000#32 - b35 j s (ix1 r)) := by
  unfold b353 b352 b351 b350
  generalize b35 j s = B35
  rfl

/-- One step of the reference's state at a row is `next` of the row. -/
theorem step_row (hj : j < 50) :
    row (step j s) r = next (ctl s) (inc s r 0 (Fin.ofNat 50 j)) (inc s r 1 (Fin.ofNat 50 j)) (row s r) := by
  have hE : b35 j s (ix1 r) = exits (ctl s) (inc s r 0 (Fin.ofNat 50 j)) (inc s r 1 (Fin.ofNat 50 j)) (row s r) := by
    unfold exits row
    rw [exits_at, outside_at, drift_at, drift_at, noise_at j s r hj, noise_at j s r hj]
  have hC : b309 j s (ix1 r) = coef (ctl s) (inc s r 0 (Fin.ofNat 50 j)) (inc s r 1 (Fin.ofNat 50 j)) (row s r) := by
    unfold coef
    rw [← hE, coef_at, rho_at, drift_at, drift_at, noise_at j s r hj, noise_at j s r hj]
    rfl
  unfold next
  rw [← hE, ← hC]
  unfold move
  refine Row.ext ?_ ?_ ?_ ?_ ?_
  · show (step j s).main_v2_4 (ix2 r 0) = _
    rw [step_main_v2_4, point_at, root_at, drift_at, noise_at j s r hj]; rfl
  · show (step j s).main_v2_4 (ix2 r 1) = _
    rw [step_main_v2_4, point_at, root_at, drift_at, noise_at j s r hj]; rfl
  · show (step j s).main_v2_5 (ix1 r) = _
    rw [step_main_v2_5, flag_at]; rfl
  · show (step j s).main_v2_6 (ix1 r) = _
    rw [step_main_v2_6, earned_at, reward_at]; rfl
  · show (step j s).main_v2_7 (ix1 r) = _
    rw [step_main_v2_7, disc_at]; rfl

/-- The reference's closing formula at a row. -/
def result (k : Row) : EReal := k.y + k.disc * (k.x0 * k.x0 + k.x1 * k.x1)

theorem result_at : R_main_v7 s (ix2 r 0) = result (row s r) := by
  unfold R_main_v7 result row
  pointwise
  rw [Fin.sum_univ_two]

end Cert.Exit.Ref
-- ==== Proof.Join.lean ====
/- One row through both programs: the kernel's fifty trips and closing formula against the reference's fifty steps. -/
module
public import proofs.«01_k».proof.Proof.KRow
public import proofs.«01_k».proof.Proof.KTrip
public import proofs.«01_k».proof.Proof.RefRow

@[expose] public section

set_option maxRecDepth 16384

noncomputable section

namespace Cert.Exit

open Idealize.ShloMosaic

theorem gStep_eq (z : EReal) : gStep z = if z < 0 then 0 else 1 := ceil_sign z

theorem gRoot_zero : gRoot 0 = 0 := by
  unfold gRoot; rw [if_neg (lt_irrefl _), if_neg (lt_irrefl _), mul_zero]

theorem gRoot_one : gRoot 1 = 1 := by
  unfold gRoot
  rw [if_pos zero_lt_one, if_pos zero_lt_one, mul_one, ← EReal.coe_one, Ideal.sqrt_coe, if_neg (by norm_num), Real.sqrt_one]

theorem exp_zero' : Ideal.exp 0 = 1 := by
  rw [← EReal.coe_zero, Ideal.exp_coe, Real.exp_zero, EReal.coe_one]

theorem one_sub_one : (1 : EReal) - 1 = 0 := by
  rw [← EReal.coe_one, ← EReal.coe_sub, sub_self, EReal.coe_zero]

theorem one_sub_zero : (1 : EReal) - 0 = 1 := by
  rw [← EReal.coe_one, ← EReal.coe_zero, ← EReal.coe_sub, sub_zero]

/-- A row still walking: both programs carry the same point, integral and discount. -/
structure Live (k : Ker.Row) (q : Ref.Row) : Prop where
  kflag : k.flag = 1
  qflag : q.flag = 1
  x0 : q.x0 = k.x0
  x1 : q.x1 = k.x1
  y : q.y = k.y
  disc : q.disc = k.disc

/-- A row that has left the ball: the reference carries what the kernel's closing formula computes from the step that
    left it. -/
structure Gone (u : EReal) (k : Ker.Row) (q : Ref.Row) : Prop where
  kflag : k.flag = 0
  qflag : q.flag = 0
  x0 : q.x0 = Ker.out0 u k
  x1 : q.x1 = Ker.out1 u k
  y : q.y = Ker.outY u k
  disc : q.disc = Ker.outDisc u k

variable {u : EReal} (d0 d1 : EReal) {k : Ker.Row} {q : Ref.Row}

/-- The reference's step indicator, at a live row, reads the kernel's trial point. -/
theorem exits_live (h : Live k q) : Ref.exits u d0 d1 q
    = if outside (k.x0 + drift u k.x0 + noise d0) (k.x1 + drift u k.x1 + noise d1) < 0 then 0 else 1 := by
  unfold Ref.exits; rw [gStep_eq, h.x0, h.x1]

/-- A live row whose trial point is inside goes on, alike in both. -/
theorem live_stays (h : Live k q)
    (hi : outside (k.x0 + drift u k.x0 + noise d0) (k.x1 + drift u k.x1 + noise d1) < 0) :
    Live (Ker.next u d0 d1 k) (Ref.next u d0 d1 q) := by
  have hs : Ker.stays u d0 d1 k = 1#1 := by
    unfold Ker.stays; rw [h.kflag, K_zero]; simp [Ideal.cmp, hi, IntOp.andi]
  have he : Ref.exits u d0 d1 q = 0 := by rw [exits_live d0 d1 h, if_pos hi]
  have hc : Ref.coef u d0 d1 q = 1 := by
    unfold Ref.coef
    rw [he, h.qflag, K_one, mul_zero, one_sub_zero, one_mul]
    simp [Ideal.cmp, Scalar.select]
  have hn : Ref.next u d0 d1 q = Ref.move u d0 d1 q 1 0 := by unfold Ref.next; rw [hc, he]
  rw [hn]
  unfold Ref.move Ker.next
  rw [hs, gRoot_one, K_one, K_zero, one_sub_zero, h.x0, h.x1, h.y, h.disc, h.qflag]
  constructor <;> simp [Scalar.select]

/-- A live row whose trial point is not inside leaves, and the reference makes the step the kernel puts off. -/
theorem live_leaves (h : Live k q)
    (hi : ¬ outside (k.x0 + drift u k.x0 + noise d0) (k.x1 + drift u k.x1 + noise d1) < 0) :
    Gone u (Ker.next u d0 d1 k) (Ref.next u d0 d1 q) := by
  have hs : Ker.stays u d0 d1 k = 0#1 := by
    unfold Ker.stays; rw [h.kflag, K_zero]; simp [Ideal.cmp, hi, IntOp.andi]
  have hl : Ker.leaves u d0 d1 k = 1#1 := by
    unfold Ker.leaves; rw [h.kflag, K_zero]; simp [Ideal.cmp, not_lt.mp hi, IntOp.andi]
  have he : Ref.exits u d0 d1 q = 1 := by rw [exits_live d0 d1 h, if_neg hi]
  have hc : Ref.coef u d0 d1 q = rho k.x0 k.x1 (drift u k.x0) (drift u k.x1) (noise d0) (noise d1) := by
    unfold Ref.coef
    rw [he, h.qflag, K_one, mul_one, h.x0, h.x1]
    simp [Ideal.cmp, Scalar.select]
  have hk : Ker.next u d0 d1 k =
      { k with flag := 0, disc := k.disc * Ideal.exp (K 0xBB83126F#32 * K 0x3F800000#32), f0 := noise d0,
               f1 := noise d1, de := k.disc } := by
    unfold Ker.next; rw [hs, hl, K_zero]; rfl
  have hn : Ref.next u d0 d1 q
      = Ref.move u d0 d1 q (rho k.x0 k.x1 (drift u k.x0) (drift u k.x1) (noise d0) (noise d1)) 1 := by
    unfold Ref.next; rw [hc, he]
  rw [hn, hk]
  unfold Ref.move
  rw [K_one, one_sub_one, mul_zero, h.x0, h.x1, h.y, h.disc]
  exact ⟨rfl, rfl, rfl, rfl, rfl, rfl⟩

/-- A row that has left stays where it is in both. -/
theorem gone_next (h : Gone u k q) : Gone u (Ker.next u d0 d1 k) (Ref.next u d0 d1 q) := by
  have hs : Ker.stays u d0 d1 k = 0#1 := by
    unfold Ker.stays; rw [h.kflag, K_zero]; simp [Ideal.cmp, IntOp.andi]
  have hl : Ker.leaves u d0 d1 k = 0#1 := by
    unfold Ker.leaves; rw [h.kflag, K_zero]; simp [Ideal.cmp, IntOp.andi]
  have hc : Ref.coef u d0 d1 q = 0 := by
    unfold Ref.coef
    rw [h.qflag, K_one, zero_mul, mul_zero]
    simp [Ideal.cmp, Scalar.select]
  have hk : Ker.next u d0 d1 k =
      { k with flag := 0, disc := k.disc * Ideal.exp (K 0xBB83126F#32 * K 0x3F800000#32) } := by
    unfold Ker.next; rw [hs, hl, K_zero]; rfl
  have hn : Ref.next u d0 d1 q = { q with flag := 0 } := by
    unfold Ref.next Ref.move
    rw [hc, gRoot_zero, h.qflag]
    simp only [mul_zero, zero_mul, add_zero, exp_zero', mul_one]
  rw [hn, hk]
  exact ⟨rfl, rfl, h.x0, h.x1, h.y, h.disc⟩

/-- Live or gone, one step keeps the two programs' rows in agreement. -/
theorem agree_next (h : Live k q ∨ Gone u k q) :
    Live (Ker.next u d0 d1 k) (Ref.next u d0 d1 q) ∨ Gone u (Ker.next u d0 d1 k) (Ref.next u d0 d1 q) := by
  rcases h with h | h
  · by_cases hi : outside (k.x0 + drift u k.x0 + noise d0) (k.x1 + drift u k.x1 + noise d1) < 0
    · exact .inl (live_stays d0 d1 h hi)
    · exact .inr (live_leaves d0 d1 h hi)
  · exact .inr (gone_next d0 d1 h)

/-- Rows in agreement give the same result. -/
theorem agree_result (h : Live k q ∨ Gone u k q) : Ker.result u k = Ref.result q := by
  unfold Ker.result Ref.result
  rcases h with h | h
  · rw [h.kflag, h.x0, h.x1, h.y, h.disc, K_zero]
    simp [Ideal.cmp, Scalar.select]
  · rw [h.kflag, h.x0, h.x1, h.y, h.disc, K_zero]
    simp [Ideal.cmp, Scalar.select]

namespace Ref
open Cert.ReferenceIdeal Cert.ReferenceIdeal.Gen Cert.ReferenceIdeal.Step

/-- The reference's state after `n` steps. -/
def iter (x : FVec Ideal S16384x2 .f32) (w : FVec Ideal S_ .f32) (dw : FVec Ideal S16384x2x50 .f32) : ℕ → State Ideal
  | 0 => init x w dw
  | n + 1 => step n (iter x w dw n)

variable (x : FVec Ideal S16384x2 .f32) (w : FVec Ideal S_ .f32) (dw : FVec Ideal S16384x2x50 .f32) (r : Fin 16384)

/-- The steps leave the control and the noise as they were given. -/
theorem iter_args : ∀ n, (iter x w dw n).main_v2_0 = w ∧ (iter x w dw n).main_v2_1 = dw
  | 0 => ⟨rfl, rfl⟩
  | n + 1 => iter_args n

/-- After any number of steps up to fifty, the kernel's row and the reference's are in agreement. -/
theorem iter_agree : ∀ n, n ≤ 50 →
    Live (Ker.walk (w (fun a => a.elim0 : S_.Idx)) (fun k => dw (ix3 r 0 k)) (fun k => dw (ix3 r 1 k))
        (Ker.start (x (ix2 r 0)) (x (ix2 r 1))) n) (row (iter x w dw n) r)
    ∨ Gone (w (fun a => a.elim0 : S_.Idx)) (Ker.walk (w (fun a => a.elim0 : S_.Idx)) (fun k => dw (ix3 r 0 k))
        (fun k => dw (ix3 r 1 k)) (Ker.start (x (ix2 r 0)) (x (ix2 r 1))) n) (row (iter x w dw n) r)
  | 0, _ => .inl ⟨K_one, K_one, rfl, rfl, rfl, rfl⟩
  | n + 1, h => by
    have e : row (iter x w dw (n + 1)) r = next (w (fun a => a.elim0 : S_.Idx)) (dw (ix3 r 0 (Fin.ofNat 50 n)))
        (dw (ix3 r 1 (Fin.ofNat 50 n))) (row (iter x w dw n) r) := by
      have hs := step_row n (iter x w dw n) r h
      unfold ctl inc at hs
      rw [(iter_args x w dw n).1, (iter_args x w dw n).2] at hs
      exact hs
    rw [e]
    exact agree_next _ _ (iter_agree n (Nat.le_of_succ_le h))

/-- The reference's result at a row is the kernel's closing formula of the kernel's fifty trips. -/
theorem final_at : R_main_v7 (iter x w dw 50) (ix2 r 0)
    = Ker.result (w (fun a => a.elim0 : S_.Idx)) (Ker.walk (w (fun a => a.elim0 : S_.Idx)) (fun k => dw (ix3 r 0 k))
        (fun k => dw (ix3 r 1 k)) (Ker.start (x (ix2 r 0)) (x (ix2 r 1))) 50) := by
  rw [result_at]
  exact (agree_result (iter_agree x w dw r 50 le_rfl)).symm

end Ref

end Cert.Exit
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Gen.KernelIdeal.Run
public import proofs.«01_k».proof.Proof.KArr
public import proofs.«01_k».proof.Proof.Join
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the arguments unchanged, and it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's result array is the kernel's, from arguments that agree. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Step.R_main_v7 (Cert.Exit.Ref.iter
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg1)) 50)
      = shapeCast Cert.KernelIdeal.S16384x1 (Cert.KernelIdeal.Value.reg_main_v5 m c)
          Cert.KernelIdeal.Gen.shapeCasts_S128x128_S16384x1 := by
  funext p
  obtain ⟨r, l, rfl⟩ : ∃ (r : Fin 16384) (l : Fin 1), p = ix2 r l :=
    ⟨p 0, p 1, funext fun a => by match a with | ⟨0, _⟩ => rfl | ⟨1, _⟩ => rfl⟩
  obtain rfl : l = 0 := Subsingleton.elim _ _
  exact (Cert.Exit.Ref.final_at _ _ _ r).trans (Cert.Exit.Ker.column_at m c r).symm

/-- Kernel and reference compute the same array over the extended reals. -/
theorem algebraic : Cert.algebraic_KernelIdeal_ReferenceIdeal := by
  intro m ρ m' ρ' _ hagree
  refine ⟨fun c => shapeCast Cert.KernelIdeal.S16384x1 (Cert.KernelIdeal.Value.reg_main_v5 m c)
      Cert.KernelIdeal.Gen.shapeCasts_S128x128_S16384x1, Cert.KernelIdeal.Value.run (F := Ideal) m ρ, ?_⟩
  have hrun := Cert.ReferenceIdeal.StepRun.run_iter (F := Ideal) m' ρ'
    (fun c => Cert.Exit.Ref.iter
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg1)))
    (fun c => rfl) (fun c n => rfl)
  refine (θ_run _ _ _).mono (fun _ h c => ⟨(h c).1.trans ?_, (h c).2⟩) hrun
  obtain ⟨e0, e1, e2⟩ := hagree c
  dsimp only
  rw [e0, e1, e2]
  exact results_agree m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  IdealRules.sign_bit.statement Cert.KernelIdeal.S32x128 .f32, algebraic⟩

end Cert.Proof

end
